-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_inputs_KernelIdeal [hPre_finite_scores_inputs_KernelIdeal : Cert.Pre_finite_scores_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_inputs_ReferenceIdeal [hPre_finite_scores_inputs_ReferenceIdeal : Cert.Pre_finite_scores_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_inputs_KernelIdeal [hKernelIdeal : Cert.KernelIdeal.Facts] [hPre_finite_scores_inputs_KernelIdeal : Cert.Pre_finite_scores_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_inputs_ReferenceIdeal [hReferenceIdeal : Cert.ReferenceIdeal.Facts] [hPre_finite_scores_inputs_ReferenceIdeal : Cert.Pre_finite_scores_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_inputs_KernelIdeal [hKernelIdeal : Cert.KernelIdeal.Facts] [hReferenceIdeal : Cert.ReferenceIdeal.Facts] [hPre_finite_scores_inputs_KernelIdeal : Cert.Pre_finite_scores_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_inputs_KernelIdeal m →
    (∀ c : Dev Cert.KernelIdeal.nD,
      m ((c.tc : Thread Cert.KernelIdeal.nD Cert.KernelIdeal.τ).loc Cert.KernelIdeal.main_arg0) = Layout.block ⟨3, ![2, 512, 768]⟩ ⟨3, ![16, 512, 768]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 512]⟩ ⟨2, ![768, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![4096, 768]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = Layout.block ⟨3, ![2, 512, 768]⟩ ⟨3, ![16, 512, 768]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_inputs_KernelIdeal : Cert.Pre_finite_scores_inputs_KernelIdeal.Facts) (hPre_finite_scores_inputs_ReferenceIdeal : Cert.Pre_finite_scores_inputs_ReferenceIdeal.Facts),
    quiescent_Kernel (hKernel := hKernel)
    ∧ quiescent_KernelIdeal (hKernelIdeal := hKernelIdeal)
    ∧ quiescent_KernelIdeal_pre_finite_scores_inputs_KernelIdeal (hKernelIdeal := hKernelIdeal) (hPre_finite_scores_inputs_KernelIdeal := hPre_finite_scores_inputs_KernelIdeal)
    ∧ quiescent_ReferenceIdeal (hReferenceIdeal := hReferenceIdeal)
    ∧ quiescent_ReferenceIdeal_pre_finite_scores_inputs_ReferenceIdeal (hReferenceIdeal := hReferenceIdeal) (hPre_finite_scores_inputs_ReferenceIdeal := hPre_finite_scores_inputs_ReferenceIdeal)
    ∧ preserves_Kernel_KernelIdeal
    ∧ algebraic_KernelIdeal_ReferenceIdeal_pre_finite_scores_inputs_KernelIdeal (hKernelIdeal := hKernelIdeal) (hReferenceIdeal := hReferenceIdeal) (hPre_finite_scores_inputs_KernelIdeal := hPre_finite_scores_inputs_KernelIdeal)
-- ==== Pre_finite_scores_inputs_KernelIdeal.lean ====
abbrev S2x512x768 : Shape := ⟨3, ![2, 512, 768]⟩
abbrev S768x512 : Shape := ⟨2, ![768, 512]⟩
abbrev S16x512x64x64 : Shape := ⟨4, ![16, 512, 64, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  bcast_S_S768x512 : S_.BroadcastsInDim S768x512 (![] : Fin 0 → Fin S768x512.rank)
  bcast_S_S16x512x64x64 : S_.BroadcastsInDim S16x512x64x64 (![] : Fin 0 → Fin S16x512x64x64.rank)

variable [Facts]

def fn {F : FTy → Type} [FloatOps F] (main_arg0 : FVec F S2x512x768 .bf16) (main_arg1 : FVec F S768x512 .bf16) (main_arg2 : FVec F S16x512x64x64 .bf16) (main_arg3 : FVec F S16x512x64x64 .bf16) (main_arg4 : FVec F S512x768 .bf16) : IVec S2x512x768 1 × IVec S768x512 1 × IVec S16x512x64x64 1 :=
  let main_cst : FVec F S_ .bf16 := constant S_ .bf16 0xFF80#16
  let main_v0 : FVec F S2x512x768 .bf16 := broadcastInDim S2x512x768 ![] bcast_S_S2x512x768 main_cst
  let main_v1 : IVec S2x512x768 1 := cmpf .ogt main_arg0 main_v0
  let main_cst_0 : FVec F S_ .bf16 := constant S_ .bf16 0x7F80#16
  let main_v2 : FVec F S2x512x768 .bf16 := broadcastInDim S2x512x768 ![] bcast_S_S2x512x768 main_cst_0
  let main_v3 : IVec S2x512x768 1 := cmpf .olt main_arg0 main_v2
  let main_v4 : IVec S2x512x768 1 := andi main_v1 main_v3
  let main_cst_1 : FVec F S_ .bf16 := constant S_ .bf16 0xFF80#16
  let main_v5 : FVec F S768x512 .bf16 := broadcastInDim S768x512 ![] bcast_S_S768x512 main_cst_1
  let main_v6 : IVec S768x512 1 := cmpf .ogt main_arg1 main_v5
  let main_cst_2 : FVec F S_ .bf16 := constant S_ .bf16 0x7F80#16
  let main_v7 : FVec F S768x512 .bf16 := broadcastInDim S768x512 ![] bcast_S_S768x512 main_cst_2
  let main_v8 : IVec S768x512 1 := cmpf .olt main_arg1 main_v7
  let main_v9 : IVec S768x512 1 := andi main_v6 main_v8
  let main_cst_3 : FVec F S_ .bf16 := constant S_ .bf16 0xFF80#16
  let main_v10 : FVec F S16x512x64x64 .bf16 := broadcastInDim S16x512x64x64 ![] bcast_S_S16x512x64x64 main_cst_3
  let main_v11 : IVec S16x512x64x64 1 := cmpf .ogt main_arg2 main_v10
  let main_cst_4 : FVec F S_ .bf16 := constant S_ .bf16 0x7F80#16
  let main_v12 : FVec F S16x512x64x64 .bf16 := broadcastInDim S16x512x64x64 ![] bcast_S_S16x512x64x64 main_cst_4
  let main_v13 : IVec S16x512x64x64 1 := cmpf .olt main_arg2 main_v12
  let main_v14 : IVec S16x512x64x64 1 := andi main_v11 main_v13
  (main_v4, main_v9, main_v14)
-- ==== Pre_finite_scores_inputs_ReferenceIdeal.lean ====
abbrev S16x512x768 : Shape := ⟨3, ![16, 512, 768]⟩
abbrev S768x4096 : Shape := ⟨2, ![768, 4096]⟩
abbrev S16x512x64x64 : Shape := ⟨4, ![16, 512, 64, 64]⟩
abbrev S4096x768 : Shape := ⟨2, ![4096, 768]⟩
abbrev S_ : Shape := ⟨0, ![]⟩

class Facts : Prop where
  bcast_S_S16x512x768 : S_.BroadcastsInDim S16x512x768 (![] : Fin 0 → Fin S16x512x768.rank)
  bcast_S_S768x4096 : S_.BroadcastsInDim S768x4096 (![] : Fin 0 → Fin S768x4096.rank)
  bcast_S_S16x512x64x64 : S_.BroadcastsInDim S16x512x64x64 (![] : Fin 0 → Fin S16x512x64x64.rank)

variable [Facts]

def fn {F : FTy → Type} [FloatOps F] (main_arg0 : FVec F S16x512x768 .bf16) (main_arg1 : FVec F S768x4096 .bf16) (main_arg2 : FVec F S16x512x64x64 .bf16) (main_arg3 : FVec F S16x512x64x64 .bf16) (main_arg4 : FVec F S4096x768 .bf16) : IVec S16x512x768 1 × IVec S768x4096 1 × IVec S16x512x64x64 1 :=
  let main_cst : FVec F S_ .bf16 := constant S_ .bf16 0xFF80#16
  let main_v0 : FVec F S16x512x768 .bf16 := broadcastInDim S16x512x768 ![] bcast_S_S16x512x768 main_cst
  let main_v1 : IVec S16x512x768 1 := cmpf .ogt main_arg0 main_v0
  let main_cst_0 : FVec F S_ .bf16 := constant S_ .bf16 0x7F80#16
  let main_v2 : FVec F S16x512x768 .bf16 := broadcastInDim S16x512x768 ![] bcast_S_S16x512x768 main_cst_0
  let main_v3 : IVec S16x512x768 1 := cmpf .olt main_arg0 main_v2
  let main_v4 : IVec S16x512x768 1 := andi main_v1 main_v3
  let main_cst_1 : FVec F S_ .bf16 := constant S_ .bf16 0xFF80#16
  let main_v5 : FVec F S768x4096 .bf16 := broadcastInDim S768x4096 ![] bcast_S_S768x4096 main_cst_1
  let main_v6 : IVec S768x4096 1 := cmpf .ogt main_arg1 main_v5
  let main_cst_2 : FVec F S_ .bf16 := constant S_ .bf16 0x7F80#16
  let main_v7 : FVec F S768x4096 .bf16 := broadcastInDim S768x4096 ![] bcast_S_S768x4096 main_cst_2
  let main_v8 : IVec S768x4096 1 := cmpf .olt main_arg1 main_v7
  let main_v9 : IVec S768x4096 1 := andi main_v6 main_v8
  let main_cst_3 : FVec F S_ .bf16 := constant S_ .bf16 0xFF80#16
  let main_v10 : FVec F S16x512x64x64 .bf16 := broadcastInDim S16x512x64x64 ![] bcast_S_S16x512x64x64 main_cst_3
  let main_v11 : IVec S16x512x64x64 1 := cmpf .ogt main_arg2 main_v10
  let main_cst_4 : FVec F S_ .bf16 := constant S_ .bf16 0x7F80#16
  let main_v12 : FVec F S16x512x64x64 .bf16 := broadcastInDim S16x512x64x64 ![] bcast_S_S16x512x64x64 main_cst_4
  let main_v13 : IVec S16x512x64x64 1 := cmpf .olt main_arg2 main_v12
  let main_v14 : IVec S16x512x64x64 1 := andi main_v11 main_v13
  (main_v4, main_v9, main_v14)
-- ==== Kernel.lean ====
abbrev S2x512x768 : Shape := ⟨3, ![2, 512, 768]⟩
abbrev S768x512 : Shape := ⟨2, ![768, 512]⟩
abbrev S16x512x64x64 : Shape := ⟨4, ![16, 512, 64, 64]⟩
abbrev S512x768 : Shape := ⟨2, ![512, 768]⟩
abbrev S_ : Shape := ⟨0, ![]⟩
abbrev S2x512x64x64 : Shape := ⟨4, ![2, 512, 64, 64]⟩
abbrev S2x64x64x512 : Shape := ⟨4, ![2, 64, 64, 512]⟩
abbrev S8192x512 : Shape := ⟨2, ![8192, 512]⟩
abbrev S1024x768 : Shape := ⟨2, ![1024, 768]⟩
abbrev S8x768x512 : Shape := ⟨3, ![8, 768, 512]⟩
abbrev S8x512x768 : Shape := ⟨3, ![8, 512, 768]⟩
abbrev S1024x512 : Shape := ⟨2, ![1024, 512]⟩
abbrev S2x4 : Shape := ⟨2, ![2, 4]⟩
abbrev S2x3 : Shape := ⟨2, ![2, 3]⟩
abbrev S1x768x512 : Shape := ⟨3, ![1, 768, 512]⟩
abbrev S1x512x768 : Shape := ⟨3, ![1, 512, 768]⟩
abbrev S512x512 : Shape := ⟨2, ![512, 512]⟩
abbrev S1x1 : Shape := ⟨2, ![1, 1]⟩
abbrev S64x512 : Shape := ⟨2, ![64, 512]⟩
abbrev S512x64 : Shape := ⟨2, ![512, 64]⟩
abbrev S512 : Shape := ⟨1, ![512]⟩
abbrev S512x1 : Shape := ⟨2, ![512, 1]⟩

abbrev nBuf : Space → Nat
  | .hbm => 39
  | .vmem => 10
  | .smem => 0
  | _ => 0

abbrev bufTy : (tb : Table) → Fin (tcTables nBuf tb) → BufTy
  | .hbm, ⟨0, _⟩ => ⟨S2x512x768, .bf16⟩
  | .hbm, ⟨1, _⟩ => ⟨S768x512, .bf16⟩
  | .hbm, ⟨2, _⟩ => ⟨S16x512x64x64, .bf16⟩
  | .hbm, ⟨3, _⟩ => ⟨S16x512x64x64, .bf16⟩
  | .hbm, ⟨4, _⟩ => ⟨S512x768, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x512x64x64, .bf16⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x512x64x64, .bf16⟩
  | .hbm, ⟨33, _⟩ => ⟨S2x64x64x512, .bf16⟩
  | .hbm, ⟨34, _⟩ => ⟨S8192x512, .bf16⟩
  | .hbm, ⟨35, _⟩ => ⟨S2x64x64x512, .bf16⟩
  | .hbm, ⟨36, _⟩ => ⟨S8192x512, .bf16⟩
  | .hbm, ⟨37, _⟩ => ⟨S1024x768, .bf16⟩
  | .hbm, ⟨38, _⟩ => ⟨S2x512x768, .f32⟩
  | .local _ .vmem, ⟨0, _⟩ => ⟨S1024x768, .bf16⟩
  | .local _ .vmem, ⟨1, _⟩ => ⟨S768x512, .bf16⟩
  | .local _ .vmem, ⟨2, _⟩ => ⟨S512x768, .bf16⟩
  | .local _ .vmem, ⟨3, _⟩ => ⟨S8192x512, .bf16⟩
  | .local _ .vmem, ⟨4, _⟩ => ⟨S8192x512, .bf16⟩
  | .local _ .vmem, ⟨5, _⟩ => ⟨S2x512x768, .f32⟩
  | .local _ .vmem, ⟨6, _⟩ => ⟨S8x768x512, .bf16⟩
  | .local _ .vmem, ⟨7, _⟩ => ⟨S8x512x768, .bf16⟩
  | .local _ .vmem, ⟨8, _⟩ => ⟨S1024x512, .bf16⟩
  | .local _ .vmem, ⟨9, _⟩ => ⟨S1024x512, .bf16⟩
  | _, _ => ⟨S2x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v16 : Index := Scalar.indexCast v2
  let c0_11 : Index := 0#32
  let c0_12 : Index := 0#32
  ![v16.toNat, 0, 0]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v23 : Index := Scalar.indexCast v2
  let c0_15 : Index := 0#32
  let c0_16 : Index := 0#32
  ![v23.toNat, 0, 0]
def k0_off3 (d0 : Dev nD) (c0_i32_35 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v83 : BitVec 32 := Scalar.subi v2 c0_i32_35
  let c16_i32 : BitVec 32 := 16#32
  let v84 : BitVec 32 := Scalar.addi v83 c16_i32
  let c8_i32_36 : BitVec 32 := 8#32
  let v85 : BitVec 32 := Scalar.remsi v84 c8_i32_36
  let c0_i32_47 : BitVec 32 := 0#32
  let c0_i32_48 : BitVec 32 := 0#32
  ![v85.toNat, 0, 0]
def k0_dev3 (d0 : Dev nD) : Nat :=
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_45 : BitVec 32 := 1#32
  let v90 : BitVec 32 := Scalar.muli v7 c1_i32_45
  let v91 : BitVec 32 := Scalar.addi c0_i32_46 v90
  v91.toNat
def k0_off4 (d0 : Dev nD) (c0_i32_35 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v83 : BitVec 32 := Scalar.subi v2 c0_i32_35
  let c16_i32 : BitVec 32 := 16#32
  let v84 : BitVec 32 := Scalar.addi v83 c16_i32
  let c8_i32_36 : BitVec 32 := 8#32
  let v85 : BitVec 32 := Scalar.remsi v84 c8_i32_36
  let c0_i32_57 : BitVec 32 := 0#32
  let c0_i32_58 : BitVec 32 := 0#32
  ![v85.toNat, 0, 0]
def k0_dev4 (d0 : Dev nD) : Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_55 : BitVec 32 := 1#32
  let v100 : BitVec 32 := Scalar.muli v7 c1_i32_55
  let v101 : BitVec 32 := Scalar.addi c0_i32_56 v100
  v101.toNat
def k0_off5 (d0 : Dev nD) (c0_i32_61 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v110 : BitVec 32 := Scalar.addi v2 c0_i32_61
  let c8_i32_62 : BitVec 32 := 8#32
  let v111 : BitVec 32 := Scalar.remsi v110 c8_i32_62
  let c0_i32_72 : BitVec 32 := 0#32
  let c0_i32_73 : BitVec 32 := 0#32
  ![v111.toNat, 0, 0]
def k0_dev5 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_70 : BitVec 32 := 1#32
  let v115 : BitVec 32 := Scalar.muli v5 c1_i32_70
  let v116 : BitVec 32 := Scalar.addi c0_i32_71 v115
  v116.toNat
def k0_off6 (d0 : Dev nD) (c0_i32_61 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v110 : BitVec 32 := Scalar.addi v2 c0_i32_61
  let c8_i32_62 : BitVec 32 := 8#32
  let v111 : BitVec 32 := Scalar.remsi v110 c8_i32_62
  let c0_i32_82 : BitVec 32 := 0#32
  let c0_i32_83 : BitVec 32 := 0#32
  ![v111.toNat, 0, 0]
def k0_dev6 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_80 : BitVec 32 := 1#32
  let v125 : BitVec 32 := Scalar.muli v5 c1_i32_80
  let v126 : BitVec 32 := Scalar.addi c0_i32_81 v125
  v126.toNat
def k0_off7 (d0 : Dev nD) (c0_i32_96 : BitVec 32) (c0_i32_97 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_95 : BitVec 32 := 8#32
  let v148 : BitVec 32 := Scalar.muli v2 c8_i32_95
  let v149 : BitVec 32 := Scalar.addi c0_i32_96 v148
  let v150 : BitVec 32 := Scalar.addi v149 c0_i32_97
  let c64_i32_98 : BitVec 32 := 64#32
  let v151 : BitVec 32 := Scalar.muli v150 c64_i32_98
  let v152 : Index := Scalar.indexCast v151
  let c0_99 : Index := 0#32
  ![v152.toNat, 0]
def k0_off8 (d0 : Dev nD) (c0_i32_38 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_37 : BitVec 32 := 1#32
  let v86 : BitVec 32 := Scalar.subi v2 c1_i32_37
  let v87 : BitVec 32 := Scalar.subi v86 c0_i32_38
  let c16_i32_39 : BitVec 32 := 16#32
  let v88 : BitVec 32 := Scalar.addi v87 c16_i32_39
  let c8_i32_40 : BitVec 32 := 8#32
  let v89 : BitVec 32 := Scalar.remsi v88 c8_i32_40
  let c0_i32_353 : BitVec 32 := 0#32
  let c0_i32_354 : BitVec 32 := 0#32
  ![v89.toNat, 0, 0]
def k0_off9 (d0 : Dev nD) (c0_i32_38 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_37 : BitVec 32 := 1#32
  let v86 : BitVec 32 := Scalar.subi v2 c1_i32_37
  let v87 : BitVec 32 := Scalar.subi v86 c0_i32_38
  let c16_i32_39 : BitVec 32 := 16#32
  let v88 : BitVec 32 := Scalar.addi v87 c16_i32_39
  let c8_i32_40 : BitVec 32 := 8#32
  let v89 : BitVec 32 := Scalar.remsi v88 c8_i32_40
  let c0_i32_363 : BitVec 32 := 0#32
  let c0_i32_364 : BitVec 32 := 0#32
  ![v89.toNat, 0, 0]
def k0_dev7 (d0 : Dev nD) : Nat :=
  let c0_i32_383 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_382 : BitVec 32 := 1#32
  let v646 : BitVec 32 := Scalar.muli v7 c1_i32_382
  let v647 : BitVec 32 := Scalar.addi c0_i32_383 v646
  v647.toNat
def k0_dev8 (d0 : Dev nD) : Nat :=
  let c0_i32_393 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_392 : BitVec 32 := 1#32
  let v656 : BitVec 32 := Scalar.muli v7 c1_i32_392
  let v657 : BitVec 32 := Scalar.addi c0_i32_393 v656
  v657.toNat
def k0_off10 (d0 : Dev nD) (c0_i32_64 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_63 : BitVec 32 := 1#32
  let v112 : BitVec 32 := Scalar.addi v2 c1_i32_63
  let v113 : BitVec 32 := Scalar.addi v112 c0_i32_64
  let c8_i32_65 : BitVec 32 := 8#32
  let v114 : BitVec 32 := Scalar.remsi v113 c8_i32_65
  let c0_i32_404 : BitVec 32 := 0#32
  let c0_i32_405 : BitVec 32 := 0#32
  ![v114.toNat, 0, 0]
def k0_off11 (d0 : Dev nD) (c0_i32_64 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_63 : BitVec 32 := 1#32
  let v112 : BitVec 32 := Scalar.addi v2 c1_i32_63
  let v113 : BitVec 32 := Scalar.addi v112 c0_i32_64
  let c8_i32_65 : BitVec 32 := 8#32
  let v114 : BitVec 32 := Scalar.remsi v113 c8_i32_65
  let c0_i32_414 : BitVec 32 := 0#32
  let c0_i32_415 : BitVec 32 := 0#32
  ![v114.toNat, 0, 0]
def k0_dev9 (d0 : Dev nD) : Nat :=
  let c0_i32_431 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_430 : BitVec 32 := 1#32
  let v690 : BitVec 32 := Scalar.muli v5 c1_i32_430
  let v691 : BitVec 32 := Scalar.addi c0_i32_431 v690
  v691.toNat
def k0_dev10 (d0 : Dev nD) : Nat :=
  let c0_i32_441 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_440 : BitVec 32 := 1#32
  let v700 : BitVec 32 := Scalar.muli v5 c1_i32_440
  let v701 : BitVec 32 := Scalar.addi c0_i32_441 v700
  v701.toNat
def k0_off12 (d0 : Dev nD) (c0_i32_419 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_418 : BitVec 32 := 1#32
  let v682 : BitVec 32 := Scalar.addi v2 c1_i32_418
  let v683 : BitVec 32 := Scalar.addi v682 c0_i32_419
  let c8_i32_420 : BitVec 32 := 8#32
  let v684 : BitVec 32 := Scalar.remsi v683 c8_i32_420
  let v710 : Index := Scalar.indexCast v684
  let c0_446 : Index := 0#32
  let c0_447 : Index := 0#32
  ![v710.toNat, 0, 0]
def k0_off13 (d0 : Dev nD) (c0_i32_419 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_418 : BitVec 32 := 1#32
  let v682 : BitVec 32 := Scalar.addi v2 c1_i32_418
  let v683 : BitVec 32 := Scalar.addi v682 c0_i32_419
  let c8_i32_420 : BitVec 32 := 8#32
  let v684 : BitVec 32 := Scalar.remsi v683 c8_i32_420
  let v713 : Index := Scalar.indexCast v684
  let c0_448 : Index := 0#32
  let c0_449 : Index := 0#32
  ![v713.toNat, 0, 0]
def k0_off14 (d0 : Dev nD) (c0_i32_456 : BitVec 32) (c0_i32_419 : BitVec 32) (c0_i32_457 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_418 : BitVec 32 := 1#32
  let v682 : BitVec 32 := Scalar.addi v2 c1_i32_418
  let v683 : BitVec 32 := Scalar.addi v682 c0_i32_419
  let c8_i32_420 : BitVec 32 := 8#32
  let v684 : BitVec 32 := Scalar.remsi v683 c8_i32_420
  let c8_i32_455 : BitVec 32 := 8#32
  let v723 : BitVec 32 := Scalar.muli v684 c8_i32_455
  let v724 : BitVec 32 := Scalar.addi c0_i32_456 v723
  let v725 : BitVec 32 := Scalar.addi v724 c0_i32_457
  let c64_i32_458 : BitVec 32 := 64#32
  let v726 : BitVec 32 := Scalar.muli v725 c64_i32_458
  let v727 : Index := Scalar.indexCast v726
  let c0_459 : Index := 0#32
  ![v727.toNat, 0]
def k0_off15 (d0 : Dev nD) (c0_i32_368 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_367 : BitVec 32 := 1#32
  let v635 : BitVec 32 := Scalar.subi v2 c1_i32_367
  let v636 : BitVec 32 := Scalar.subi v635 c0_i32_368
  let c16_i32_369 : BitVec 32 := 16#32
  let v637 : BitVec 32 := Scalar.addi v636 c16_i32_369
  let c8_i32_370 : BitVec 32 := 8#32
  let v638 : BitVec 32 := Scalar.remsi v637 c8_i32_370
  let v1194 : Index := Scalar.indexCast v638
  let c0_720 : Index := 0#32
  let c0_721 : Index := 0#32
  ![v1194.toNat, 0, 0]
def k0_off16 (d0 : Dev nD) (c0_i32_368 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_367 : BitVec 32 := 1#32
  let v635 : BitVec 32 := Scalar.subi v2 c1_i32_367
  let v636 : BitVec 32 := Scalar.subi v635 c0_i32_368
  let c16_i32_369 : BitVec 32 := 16#32
  let v637 : BitVec 32 := Scalar.addi v636 c16_i32_369
  let c8_i32_370 : BitVec 32 := 8#32
  let v638 : BitVec 32 := Scalar.remsi v637 c8_i32_370
  let v1197 : Index := Scalar.indexCast v638
  let c0_722 : Index := 0#32
  let c0_723 : Index := 0#32
  ![v1197.toNat, 0, 0]
def k0_off17 (d0 : Dev nD) (c0_i32_730 : BitVec 32) (c0_i32_368 : BitVec 32) (c0_i32_731 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_367 : BitVec 32 := 1#32
  let v635 : BitVec 32 := Scalar.subi v2 c1_i32_367
  let v636 : BitVec 32 := Scalar.subi v635 c0_i32_368
  let c16_i32_369 : BitVec 32 := 16#32
  let v637 : BitVec 32 := Scalar.addi v636 c16_i32_369
  let c8_i32_370 : BitVec 32 := 8#32
  let v638 : BitVec 32 := Scalar.remsi v637 c8_i32_370
  let c8_i32_729 : BitVec 32 := 8#32
  let v1207 : BitVec 32 := Scalar.muli v638 c8_i32_729
  let v1208 : BitVec 32 := Scalar.addi c0_i32_730 v1207
  let v1209 : BitVec 32 := Scalar.addi v1208 c0_i32_731
  let c64_i32_732 : BitVec 32 := 64#32
  let v1210 : BitVec 32 := Scalar.muli v1209 c64_i32_732
  let v1211 : Index := Scalar.indexCast v1210
  let c0_733 : Index := 0#32
  ![v1211.toNat, 0]
def k0_dev11 (d0 : Dev nD) : Nat :=
  let c0_i32_1030 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1029 : BitVec 32 := 1#32
  let v1705 : BitVec 32 := Scalar.muli v7 c1_i32_1029
  let v1706 : BitVec 32 := Scalar.addi c0_i32_1030 v1705
  v1706.toNat
def k0_dev12 (d0 : Dev nD) : Nat :=
  let c0_i32_1040 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1039 : BitVec 32 := 1#32
  let v1715 : BitVec 32 := Scalar.muli v7 c1_i32_1039
  let v1716 : BitVec 32 := Scalar.addi c0_i32_1040 v1715
  v1716.toNat
def k0_dev13 (d0 : Dev nD) : Nat :=
  let c0_i32_1078 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1077 : BitVec 32 := 1#32
  let v1749 : BitVec 32 := Scalar.muli v5 c1_i32_1077
  let v1750 : BitVec 32 := Scalar.addi c0_i32_1078 v1749
  v1750.toNat
def k0_dev14 (d0 : Dev nD) : Nat :=
  let c0_i32_1088 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1087 : BitVec 32 := 1#32
  let v1759 : BitVec 32 := Scalar.muli v5 c1_i32_1087
  let v1760 : BitVec 32 := Scalar.addi c0_i32_1088 v1759
  v1760.toNat
def k0_dev15 (d0 : Dev nD) : Nat :=
  let c0_i32_1677 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1676 : BitVec 32 := 1#32
  let v2764 : BitVec 32 := Scalar.muli v7 c1_i32_1676
  let v2765 : BitVec 32 := Scalar.addi c0_i32_1677 v2764
  v2765.toNat
def k0_dev16 (d0 : Dev nD) : Nat :=
  let c0_i32_1687 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1686 : BitVec 32 := 1#32
  let v2774 : BitVec 32 := Scalar.muli v7 c1_i32_1686
  let v2775 : BitVec 32 := Scalar.addi c0_i32_1687 v2774
  v2775.toNat
abbrev stage0_0 : Fin 1 → Memref sig .tc .vmem S1024x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S16x512x768 : Shape := ⟨3, ![16, 512, 768]⟩
abbrev S768x4096 : Shape := ⟨2, ![768, 4096]⟩
abbrev S16x512x64x64 : Shape := ⟨4, ![16, 512, 64, 64]⟩
abbrev S4096x768 : Shape := ⟨2, ![4096, 768]⟩
abbrev S16x512x4096 : Shape := ⟨3, ![16, 512, 4096]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S16x64x512x512 : Shape := ⟨4, ![16, 64, 512, 512]⟩
abbrev S1x1x512x512 : Shape := ⟨4, ![1, 1, 512, 512]⟩
abbrev S16x64x512 : Shape := ⟨3, ![16, 64, 512]⟩
abbrev S16x64x512x1 : Shape := ⟨4, ![16, 64, 512, 1]⟩
abbrev S1x1x512x1 : Shape := ⟨4, ![1, 1, 512, 1]⟩
abbrev S16x64x64x512 : Shape := ⟨4, ![16, 64, 64, 512]⟩

abbrev nBuf : Space → Nat
  | .hbm => 98
  | .vmem => 0
  | .smem => 0
  | _ => 0

abbrev bufTy : (tb : Table) → Fin (tcTables nBuf tb) → BufTy
  | .hbm, ⟨0, _⟩ => ⟨S16x512x768, .bf16⟩
  | .hbm, ⟨1, _⟩ => ⟨S768x4096, .bf16⟩
  | .hbm, ⟨2, _⟩ => ⟨S16x512x64x64, .bf16⟩
  | .hbm, ⟨3, _⟩ => ⟨S16x512x64x64, .bf16⟩
  | .hbm, ⟨4, _⟩ => ⟨S4096x768, .bf16⟩
  | .hbm, ⟨5, _⟩ => ⟨S16x512x768, .f32⟩
  | .hbm, ⟨6, _⟩ => ⟨S768x4096, .f32⟩
  | .hbm, ⟨7, _⟩ => ⟨S16x512x64x64, .f32⟩
  | .hbm, ⟨8, _⟩ => ⟨S16x512x64x64, .f32⟩
  | .hbm, ⟨9, _⟩ => ⟨S4096x768, .f32⟩
  | .hbm, ⟨10, _⟩ => ⟨S16x512x4096, .f32⟩
  | .hbm, ⟨11, _⟩ => ⟨S16x512x4096, .bf16⟩
  | .hbm, ⟨12, _⟩ => ⟨S16x512x4096, .f32⟩
  | .hbm, ⟨13, _⟩ => ⟨S16x512x64x64, .f32⟩
  | .hbm, ⟨14, _⟩ => ⟨S512, .i32⟩
  | .hbm, ⟨15, _⟩ => ⟨S_, .i32⟩
  | .hbm, ⟨16, _⟩ => ⟨S_, .i32⟩
  | .hbm, ⟨17, _⟩ => ⟨S512, .i32⟩
  | .hbm, ⟨18, _⟩ => ⟨S512, .i32⟩
  | .hbm, ⟨19, _⟩ => ⟨S512, .i32⟩
  | .hbm, ⟨20, _⟩ => ⟨S_, .i32⟩
  | .hbm, ⟨21, _⟩ => ⟨S512, .i32⟩
  | .hbm, ⟨22, _⟩ => ⟨S512, .i1⟩
  | .hbm, ⟨23, _⟩ => ⟨S512, .i32⟩
  | .hbm, ⟨24, _⟩ => ⟨S512, .i32⟩
  | .hbm, ⟨25, _⟩ => ⟨S_, .i32⟩
  | .hbm, ⟨26, _⟩ => ⟨S512, .i32⟩
  | .hbm, ⟨27, _⟩ => ⟨S512, .i1⟩
  | .hbm, ⟨28, _⟩ => ⟨S512, .i1⟩
  | .hbm, ⟨29, _⟩ => ⟨S_, .i32⟩
  | .hbm, ⟨30, _⟩ => ⟨S512, .i32⟩
  | .hbm, ⟨31, _⟩ => ⟨S512, .i32⟩
  | .hbm, ⟨32, _⟩ => ⟨S512, .i32⟩
  | .hbm, ⟨33, _⟩ => ⟨S512x1, .i32⟩
  | .hbm, ⟨34, _⟩ => ⟨S512, .i32⟩
  | .hbm, ⟨35, _⟩ => ⟨S_, .i32⟩
  | .hbm, ⟨36, _⟩ => ⟨S_, .i32⟩
  | .hbm, ⟨37, _⟩ => ⟨S512, .i32⟩
  | .hbm, ⟨38, _⟩ => ⟨S512, .i32⟩
  | .hbm, ⟨39, _⟩ => ⟨S512, .i32⟩
  | .hbm, ⟨40, _⟩ => ⟨S_, .i32⟩
  | .hbm, ⟨41, _⟩ => ⟨S512, .i32⟩
  | .hbm, ⟨42, _⟩ => ⟨S512, .i1⟩
  | .hbm, ⟨43, _⟩ => ⟨S512, .i32⟩
  | .hbm, ⟨44, _⟩ => ⟨S512, .i32⟩
  | .hbm, ⟨45, _⟩ => ⟨S_, .i32⟩
  | .hbm, ⟨46, _⟩ => ⟨S512, .i32⟩
  | .hbm, ⟨47, _⟩ => ⟨S512, .i1⟩
  | .hbm, ⟨48, _⟩ => ⟨S512, .i1⟩
  | .hbm, ⟨49, _⟩ => ⟨S_, .i32⟩
  | .hbm, ⟨50, _⟩ => ⟨S512, .i32⟩
  | .hbm, ⟨51, _⟩ => ⟨S512, .i32⟩
  | .hbm, ⟨52, _⟩ => ⟨S512, .i32⟩
  | .hbm, ⟨53, _⟩ => ⟨S1x512, .i32⟩
  | .hbm, ⟨54, _⟩ => ⟨S512x512, .i32⟩
  | .hbm, ⟨55, _⟩ => ⟨S512x512, .i32⟩
  | .hbm, ⟨56, _⟩ => ⟨S512x512, .i1⟩
  | .hbm, ⟨57, _⟩ => ⟨S16x64x512x512, .f32⟩
  | .hbm, ⟨58, _⟩ => ⟨S16x64x512x512, .bf16⟩
  | .hbm, ⟨59, _⟩ => ⟨S16x64x512x512, .f32⟩
  | .hbm, ⟨60, _⟩ => ⟨S_, .f32⟩
  | .hbm, ⟨61, _⟩ => ⟨S16x64x512x512, .f32⟩
  | .hbm, ⟨62, _⟩ => ⟨S16x64x512x512, .f32⟩
  | .hbm, ⟨63, _⟩ => ⟨S1x1x512x512, .i1⟩
  | .hbm, ⟨64, _⟩ => ⟨S_, .f32⟩
  | .hbm, ⟨65, _⟩ => ⟨S_, .f32⟩
  | .hbm, ⟨66, _⟩ => ⟨S16x64x512x512, .i1⟩
  | .hbm, ⟨67, _⟩ => ⟨S16x64x512x512, .f32⟩
  | .hbm, ⟨68, _⟩ => ⟨S16x64x512x512, .f32⟩
  | .hbm, ⟨69, _⟩ => ⟨S_, .f32⟩
  | .hbm, ⟨70, _⟩ => ⟨S16x64x512, .f32⟩
  | .hbm, ⟨71, _⟩ => ⟨S16x64x512x1, .f32⟩
  | .hbm, ⟨72, _⟩ => ⟨S16x64x512x512, .f32⟩
  | .hbm, ⟨73, _⟩ => ⟨S16x64x512x512, .f32⟩
  | .hbm, ⟨74, _⟩ => ⟨S16x64x512x512, .f32⟩
  | .hbm, ⟨75, _⟩ => ⟨S_, .i1⟩
  | .hbm, ⟨76, _⟩ => ⟨S512, .i1⟩
  | .hbm, ⟨77, _⟩ => ⟨S1x1x512x1, .i1⟩
  | .hbm, ⟨78, _⟩ => ⟨S_, .f32⟩
  | .hbm, ⟨79, _⟩ => ⟨S16x64x512, .f32⟩
  | .hbm, ⟨80, _⟩ => ⟨S16x64x512x1, .f32⟩
  | .hbm, ⟨81, _⟩ => ⟨S_, .f32⟩
  | .hbm, ⟨82, _⟩ => ⟨S_, .f32⟩
  | .hbm, ⟨83, _⟩ => ⟨S16x64x512x1, .i1⟩
  | .hbm, ⟨84, _⟩ => ⟨S16x64x512x1, .f32⟩
  | .hbm, ⟨85, _⟩ => ⟨S16x64x512x1, .f32⟩
  | .hbm, ⟨86, _⟩ => ⟨S16x64x512x512, .f32⟩
  | .hbm, ⟨87, _⟩ => ⟨S16x64x512x512, .f32⟩
  | .hbm, ⟨88, _⟩ => ⟨S1x1x512x1, .i1⟩
  | .hbm, ⟨89, _⟩ => ⟨S_, .f32⟩
  | .hbm, ⟨90, _⟩ => ⟨S_, .f32⟩
  | .hbm, ⟨91, _⟩ => ⟨S16x64x512x512, .i1⟩
  | .hbm, ⟨92, _⟩ => ⟨S16x64x512x512, .f32⟩
  | .hbm, ⟨93, _⟩ => ⟨S16x64x512x512, .f32⟩
  | .hbm, ⟨94, _⟩ => ⟨S16x64x64x512, .f32⟩
  | .hbm, ⟨95, _⟩ => ⟨S16x512x64x64, .f32⟩
  | .hbm, ⟨96, _⟩ => ⟨S16x512x4096, .f32⟩
  | .hbm, ⟨97, _⟩ => ⟨S16x512x768, .f32⟩
  | _, _ => ⟨S16x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_c : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_0 : Ref sig .tc := ⟨.hbm, 49, rfl⟩
abbrev main_call1_v12 : Ref sig .tc := ⟨.hbm, 50, rfl⟩
abbrev main_call1_v13 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_cst : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_cst_1 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_v24 : Ref sig .tc := ⟨.hbm, 68, rfl⟩
abbrev main_cst_2 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_c_3 : Ref sig .tc := ⟨.hbm, 75, rfl⟩
abbrev main_v30 : Ref sig .tc := ⟨.hbm, 76, rfl⟩
abbrev main_v31 : Ref sig .tc := ⟨.hbm, 77, rfl⟩
abbrev main_cst_4 : Ref sig .tc := ⟨.hbm, 78, rfl⟩
abbrev main_v32 : Ref sig .tc := ⟨.hbm, 79, rfl⟩
abbrev main_v33 : Ref sig .tc := ⟨.hbm, 80, rfl⟩
abbrev main_cst_5 : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_cst_6 : Ref sig .tc := ⟨.hbm, 89, rfl⟩
abbrev main_call4_v0 : Ref sig .tc := ⟨.hbm, 90, rfl⟩
abbrev main_call4_v1 : Ref sig .tc := ⟨.hbm, 91, rfl⟩
abbrev main_call4_v2 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩

abbrev nD : Nat := 1
abbrev τ : Topo := Topo.v7x

variable {F : FTy → Type} [FloatOps F]
-- ==== Proof.Struct.lean ====
/-
# The kernel body as a structured program

The printed body is one straight line of 765 memory operations. Here it is written again with its
structure: heads within a block, a block per weight slot, the transfers of one hop. `body_eq` says the two are
the same program.
-/
module

public import proofs.«01_k».proof.Proof.Gen.KernelIdeal
public import proofs.«01_k».proof.Proof.Gen.KernelIdeal.Skeleton
public import Idealize.ShloMosaic.Lib.Pipeline.Regions

@[expose] public section

noncomputable section

namespace Cert.KRun

open Cert.KernelIdeal Cert.KernelIdeal.Gen

open Idealize.ShloMosaic Idealize.ShloMosaic.TcCoe
open Idealize.SL Idealize.SL.Sem

variable {F : FTy → Type} [FloatOps F] [Named F]

/-! ## The buffers -/

/-- The staged inputs: activations, this device's query and output weights, keys, values; the staged result. -/
abbrev xM : Memref sig .tc .vmem S1024x768 .bf16 := Memref.whole cc0_stg0_0
abbrev wqM : Memref sig .tc .vmem S768x512 .bf16 := Memref.whole cc0_stg1_0
abbrev woM : Memref sig .tc .vmem S512x768 .bf16 := Memref.whole cc0_stg2_0
abbrev kM : Memref sig .tc .vmem S8192x512 .bf16 := Memref.whole cc0_stg3_0
abbrev vM : Memref sig .tc .vmem S8192x512 .bf16 := Memref.whole cc0_stg4_0
abbrev oM : Memref sig .tc .vmem S2x512x768 .f32 := Memref.whole cc0_stg5_0
/-- Eight slots for the query weights and eight for the output weights, one per device of the ring. -/
abbrev wqAll : Memref sig .tc .vmem S8x768x512 .bf16 := Memref.whole cc0_scratch0
abbrev woAll : Memref sig .tc .vmem S8x512x768 .bf16 := Memref.whole cc0_scratch1
/-- One block's queries and its attention output. -/
abbrev qM : Memref sig .tc .vmem S1024x512 .bf16 := Memref.whole cc0_scratch2
abbrev cM : Memref sig .tc .vmem S1024x512 .bf16 := Memref.whole cc0_scratch3

/-- The barrier semaphore. -/
abbrev barS : Idealize.ShloMosaic.Sem sig := (SemArray.scalar (sig.barrier 0 rfl) : Sems sig S_).sem

/-- The program type of the body. -/
abbrev PB (F : FTy → Type) := Prog (TpuEff nD τ sig (Elt F) Λ₀ .tc) PUnit

/-! ## Slots -/

abbrev InbQ (o : Fin 3 → ℕ) : Prop := ∀ a, o a + S1x768x512.size a ≤ S8x768x512.size a
abbrev InbO (o : Fin 3 → ℕ) : Prop := ∀ a, o a + S1x512x768.size a ≤ S8x512x768.size a
abbrev InbKV (o : Fin 2 → ℕ) : Prop := ∀ a, o a + S64x512.size a ≤ S8192x512.size a
abbrev InbH (o : Fin 2 → ℕ) : Prop := ∀ a, o a + S512x64.size a ≤ S1024x512.size a

abbrev rectQ (o : Fin 3 → ℕ) (h : InbQ o) : Rect S8x768x512 := Rect.unit (s := S8x768x512) o S1x768x512.size h
abbrev rectO (o : Fin 3 → ℕ) (h : InbO o) : Rect S8x512x768 := Rect.unit (s := S8x512x768) o S1x512x768.size h
abbrev rectKV (o : Fin 2 → ℕ) (h : InbKV o) : Rect S8192x512 := Rect.unit (s := S8192x512) o S64x512.size h
abbrev rectH (o : Fin 2 → ℕ) (h : InbH o) : Rect S1024x512 := Rect.unit (s := S1024x512) o S512x64.size h

/-- One slot of the query (output) weights as the transfers name it. -/
abbrev slotQ (o : Fin 3 → ℕ) (h : InbQ o) : Memref sig .tc .vmem S768x512 .bf16 :=
  (wqAll.slice (rectQ o h) (fun _ => rfl)).squeeze S768x512 squeezes_S1x768x512_S768x512
abbrev slotO (o : Fin 3 → ℕ) (h : InbO o) : Memref sig .tc .vmem S512x768 .bf16 :=
  (woAll.slice (rectO o h) (fun _ => rfl)).squeeze S512x768 squeezes_S1x512x768_S512x768

/-! ## One head, the sixteen heads of a block, a block -/

/-- What one head stores: scores, weights, normalisation, mix of the values. -/
def headVal (bias : FVec F S512x512 .f32) (kk v : Vec F S64x512 .bf16) (q : Vec F S512x64 .bf16) : FVec F S512x64 .bf16 :=
  k0_pay16 bias kk v q

/-- A block's queries, and the result with the block's share added. -/
def qVal (w : Vec F S1x768x512 .bf16) (x : Vec F S1024x768 .bf16) : FVec F S1024x512 .bf16 := k0_pay10 w x
def outVal (w : Vec F S1x512x768 .bf16) (o : Vec F S2x512x768 .f32) (ctx : Vec F S1024x512 .bf16) : FVec F S2x512x768 .f32 :=
  k0_pay45 (k0_pay9 w) o ctx

/-- The causal bias, one table for all heads. -/
def biasVal : FVec F S512x512 .f32 := k0_pay8 k0_pay4 k0_pay5 k0_pay6 k0_pay7 0#32

def headK (bias : FVec F S512x512 .f32) (okv : Fin 2 → ℕ) (hkv : InbKV okv) (oq : Fin 2 → ℕ) (hq : InbH oq)
    (hpk : (rectH oq hq).PackedRows (EltTy.packing .bf16)) (k : PB F) : PB F :=
  .op (.load kM (rectKV okv hkv).toLoadRect (View.loadsAt_vmem h_S64x512)) fun kk =>
  .op (.load vM (rectKV okv hkv).toLoadRect (View.loadsAt_vmem h_S64x512)) fun v =>
  .op (.load qM (rectH oq hq).toLoadRect (View.loadsAt_vmem h_S512x64)) fun q =>
  .op (.load cM (rectH oq hq).toLoadRect (View.loadsAt_vmem h_S512x64)) fun _ =>
  .op (.store cM (rectH oq hq) (headVal bias kk v q) Finset.univ
    (View.stores_vmem h_S512x64 ((Memref.isWhole_whole _).storeExact_slice rfl _ hpk) (fun _ => rfl)) (.inl rfl)) fun _ => k

/-- A head's place in the block's queries: batch entry `b` is 512 rows, head `h` is 64 columns. -/
def offH (b : Fin 2) (h : Fin 8) : Fin 2 → ℕ := ![512 * b.val, 64 * h.val]
theorem offH_inb : ∀ b h, InbH (offH b h) := by decide +kernel
theorem offH_packed : ∀ b h, (rectH (offH b h) (offH_inb b h)).PackedRows (EltTy.packing .bf16) := by decide +kernel

/-- The heads of a block in the order the kernel takes them. -/
def headList : List (Fin 2 × Fin 8) :=
  [(0, 0), (0, 1), (0, 2), (0, 3), (0, 4), (0, 5), (0, 6), (0, 7), (1, 0), (1, 1), (1, 2), (1, 3), (1, 4), (1, 5), (1, 6), (1, 7)]

def headsK (bias : FVec F S512x512 .f32) (okv : Fin 2 → Fin 8 → Fin 2 → ℕ) (hkv : ∀ b h, InbKV (okv b h)) :
    List (Fin 2 × Fin 8) → PB F → PB F
  | [], k => k
  | p :: ps, k => headK bias (okv p.1 p.2) (hkv p.1 p.2) (offH p.1 p.2) (offH_inb p.1 p.2) (offH_packed p.1 p.2) (headsK bias okv hkv ps k)

abbrev rX : Rect S1024x768 := Rect.unit (s := S1024x768) ![0, 0] S1024x768.size inb_S1024x768_S1024x768_0_0
abbrev rQ : Rect S1024x512 := Rect.unit (s := S1024x512) ![0, 0] S1024x512.size inb_S1024x512_S1024x512_0_0
abbrev rOut : Rect S2x512x768 := Rect.unit (s := S2x512x768) ![0, 0, 0] S2x512x768.size inb_S2x512x768_S2x512x768_0_0_0

def blockK (bias : FVec F S512x512 .f32) (o6 : Fin 3 → ℕ) (h6 : InbQ o6) (o7 : Fin 3 → ℕ) (h7 : InbO o7)
    (okv : Fin 2 → Fin 8 → Fin 2 → ℕ) (hkv : ∀ b h, InbKV (okv b h)) (k : PB F) : PB F :=
  .op (.load wqAll (rectQ o6 h6).toLoadRect (View.loadsAt_vmem h_S1x768x512)) fun wq =>
  .op (.load woAll (rectO o7 h7).toLoadRect (View.loadsAt_vmem h_S1x512x768)) fun wo =>
  .op (.load xM rX.toLoadRect (View.loadsAt_vmem h_S1024x768)) fun x =>
  .op (.load qM rQ.toLoadRect (View.loadsAt_vmem h_S1024x512)) fun _ =>
  .op (.store qM rQ (qVal wq x) Finset.univ
    (View.stores_vmem h_S1024x512 ((Memref.isWhole_whole _).storeExact_slice rfl _ packedbf16_S1024x512_S1024x512_0_0) (fun _ => rfl)) (.inl rfl)) fun _ =>
  headsK bias okv hkv headList <|
  .op (.load oM rOut.toLoadRect (View.loadsAt_vmem h_S2x512x768)) fun o =>
  .op (.load cM rQ.toLoadRect (View.loadsAt_vmem h_S1024x512)) fun ctx =>
  .op (.load oM rOut.toLoadRect (View.loadsAt_vmem h_S2x512x768)) fun _ =>
  .op (.store oM rOut (outVal wo o ctx) Finset.univ (View.stores_vmem_bits_univ h_S2x512x768 rfl) (.inl rfl)) fun _ => k

/-! ## The transfers -/

/-- The transfers' semaphores: `t = 0` the query weights, `t = 1` the output weights; `r` the hop. -/
def ssR (t : Fin 2) (r : Fin 4) : DmaSem sig := ⟨6 + 4 * t.val + r.val, by revert t r; decide⟩
def rsR (t : Fin 2) (r : Fin 4) : DmaSem sig := ⟨14 + 4 * t.val + r.val, by revert t r; decide⟩
def ssL (t : Fin 2) (r : Fin 3) : DmaSem sig := ⟨22 + 3 * t.val + r.val, by revert t r; decide⟩
def rsL (t : Fin 2) (r : Fin 3) : DmaSem sig := ⟨28 + 3 * t.val + r.val, by revert t r; decide⟩

abbrev WordsQ (o : Fin 3 → ℕ) (h : InbQ o) : Prop := (rectQ o h).WholeWords (EltTy.packing .bf16)
abbrev WordsO (o : Fin 3 → ℕ) (h : InbO o) : Prop := (rectO o h).WholeWords (EltTy.packing .bf16)

def sendQ (o : Fin 3 → ℕ) (h : InbQ o) (hw : WordsQ o h) (dst : Dev nD) (ss rs : DmaSem sig) (k : PB F) : PB F :=
  .op (.enqueueDma (slotQ o h) (.remote (Dev.tc dst) (slotQ o h) (.dma ss)) (.dma rs)
    (((Memref.isWhole_whole _).wordExact_slice rfl _ hw).reshape _ _) (((Memref.isWhole_whole _).wordExact_slice rfl _ hw).reshape _ _) ⟨⟨rfl, Or.inl rfl⟩, trivial⟩) fun _ => k
def sendO (o : Fin 3 → ℕ) (h : InbO o) (hw : WordsO o h) (dst : Dev nD) (ss rs : DmaSem sig) (k : PB F) : PB F :=
  .op (.enqueueDma (slotO o h) (.remote (Dev.tc dst) (slotO o h) (.dma ss)) (.dma rs)
    (((Memref.isWhole_whole _).wordExact_slice rfl _ hw).reshape _ _) (((Memref.isWhole_whole _).wordExact_slice rfl _ hw).reshape _ _) ⟨⟨rfl, Or.inl rfl⟩, trivial⟩) fun _ => k
def waitQ (o : Fin 3 → ℕ) (h : InbQ o) (hw : WordsQ o h) (s : DmaSem sig) (k : PB F) : PB F :=
  .op (.waitDma2 s (slotQ o h) (slotQ o h)
    (((Memref.isWhole_whole _).wordExact_slice rfl _ hw).reshape _ _) (((Memref.isWhole_whole _).wordExact_slice rfl _ hw).reshape _ _)) fun _ => k
def waitO (o : Fin 3 → ℕ) (h : InbO o) (hw : WordsO o h) (s : DmaSem sig) (k : PB F) : PB F :=
  .op (.waitDma2 s (slotO o h) (slotO o h)
    (((Memref.isWhole_whole _).wordExact_slice rfl _ hw).reshape _ _) (((Memref.isWhole_whole _).wordExact_slice rfl _ hw).reshape _ _)) fun _ => k

/-- Hop `r` to the right: both arrays' slots of the device `r` places behind. -/
def sendR (d : Dev nD) (r : Fin 4) (dq dO : Dev nD) (k : PB F) : PB F :=
  sendQ (k0_off3 d (BitVec.ofNat 32 r.val)) (k0_off3_inb d r) (k0_off3_wordsbf16 d r) dq (ssR 0 r) (rsR 0 r) <|
  sendO (k0_off4 d (BitVec.ofNat 32 r.val)) (k0_off4_inb d r) (k0_off4_wordsbf16 d r) dO (ssR 1 r) (rsR 1 r) k
/-- Hop `r` to the left: both arrays' slots of the device `r` places ahead. -/
def sendL (d : Dev nD) (r : Fin 3) (dq dO : Dev nD) (k : PB F) : PB F :=
  sendQ (k0_off5 d (BitVec.ofNat 32 r.val)) (k0_off5_inb d r) (k0_off5_wordsbf16 d r) dq (ssL 0 r) (rsL 0 r) <|
  sendO (k0_off6 d (BitVec.ofNat 32 r.val)) (k0_off6_inb d r) (k0_off6_wordsbf16 d r) dO (ssL 1 r) (rsL 1 r) k
/-- The waits for what arrives in hop `r`, from the left neighbour and from the right one. -/
def recvR (d : Dev nD) (r : Fin 4) (k : PB F) : PB F :=
  waitQ (k0_off8 d (BitVec.ofNat 32 r.val)) (k0_off8_inb d r) (k0_off8_wordsbf16 d r) (rsR 0 r) <|
  waitO (k0_off9 d (BitVec.ofNat 32 r.val)) (k0_off9_inb d r) (k0_off9_wordsbf16 d r) (rsR 1 r) k
def recvL (d : Dev nD) (r : Fin 3) (k : PB F) : PB F :=
  waitQ (k0_off10 d (BitVec.ofNat 32 r.val)) (k0_off10_inb d r) (k0_off10_wordsbf16 d r) (rsL 0 r) <|
  waitO (k0_off11 d (BitVec.ofNat 32 r.val)) (k0_off11_inb d r) (k0_off11_wordsbf16 d r) (rsL 1 r) k
/-- The waits for this device's own sends of hop `r`. -/
def doneR (d : Dev nD) (r : Fin 4) (k : PB F) : PB F :=
  waitQ (k0_off3 d (BitVec.ofNat 32 r.val)) (k0_off3_inb d r) (k0_off3_wordsbf16 d r) (ssR 0 r) <|
  waitO (k0_off4 d (BitVec.ofNat 32 r.val)) (k0_off4_inb d r) (k0_off4_wordsbf16 d r) (ssR 1 r) k
def doneL (d : Dev nD) (r : Fin 3) (k : PB F) : PB F :=
  waitQ (k0_off5 d (BitVec.ofNat 32 r.val)) (k0_off5_inb d r) (k0_off5_wordsbf16 d r) (ssL 0 r) <|
  waitO (k0_off6 d (BitVec.ofNat 32 r.val)) (k0_off6_inb d r) (k0_off6_wordsbf16 d r) (ssL 1 r) k

/-- The block of the device's own slot, of the slot that came from the right in hop `r`, and from the left. -/
def blockMy (d : Dev nD) (k : PB F) : PB F :=
  blockK biasVal (k0_off1 d) (k0_off1_inb d) (k0_off2 d) (k0_off2_inb d)
    (fun b h => k0_off7 d (BitVec.ofNat 32 (64 * b.val)) (BitVec.ofNat 32 h.val)) (fun b h => k0_off7_inb d b h) k
def blockL (d : Dev nD) (r : Fin 3) (k : PB F) : PB F :=
  blockK biasVal (k0_off12 d (BitVec.ofNat 32 r.val)) (k0_off12_inb d r) (k0_off13 d (BitVec.ofNat 32 r.val)) (k0_off13_inb d r)
    (fun b h => k0_off14 d (BitVec.ofNat 32 (64 * b.val)) (BitVec.ofNat 32 r.val) (BitVec.ofNat 32 h.val)) (fun b h => k0_off14_inb d b r h) k
def blockR (d : Dev nD) (r : Fin 4) (k : PB F) : PB F :=
  blockK biasVal (k0_off15 d (BitVec.ofNat 32 r.val)) (k0_off15_inb d r) (k0_off16 d (BitVec.ofNat 32 r.val)) (k0_off16_inb d r)
    (fun b h => k0_off17 d (BitVec.ofNat 32 (64 * b.val)) (BitVec.ofNat 32 r.val) (BitVec.ofNat 32 h.val)) (fun b h => k0_off17_inb d b r h) k

/-- The device's own weights into its own slots, and the result cleared. -/
def fillK (d : Dev nD) (k : PB F) : PB F :=
  .op (.load wqM (Rect.unit (s := S768x512) ![0, 0] S768x512.size inb_S768x512_S768x512_0_0).toLoadRect (View.loadsAt_vmem h_S768x512)) fun w =>
  .op (.load wqAll (rectQ (k0_off1 d) (k0_off1_inb d)).toLoadRect (View.loadsAt_vmem h_S1x768x512)) fun _ =>
  .op (.store wqAll (rectQ (k0_off1 d) (k0_off1_inb d)) (k0_pay1 w) Finset.univ
    (View.stores_vmem h_S1x768x512 ((Memref.isWhole_whole _).storeExact_slice rfl _ (k0_off1_packedbf16 d)) (fun _ => rfl)) (.inl rfl)) fun _ =>
  .op (.load woM (Rect.unit (s := S512x768) ![0, 0] S512x768.size inb_S512x768_S512x768_0_0).toLoadRect (View.loadsAt_vmem h_S512x768)) fun w =>
  .op (.load woAll (rectO (k0_off2 d) (k0_off2_inb d)).toLoadRect (View.loadsAt_vmem h_S1x512x768)) fun _ =>
  .op (.store woAll (rectO (k0_off2 d) (k0_off2_inb d)) (k0_pay2 w) Finset.univ
    (View.stores_vmem h_S1x512x768 ((Memref.isWhole_whole _).storeExact_slice rfl _ (k0_off2_packedbf16 d)) (fun _ => rfl)) (.inl rfl)) fun _ =>
  .op (.load oM rOut.toLoadRect (View.loadsAt_vmem h_S2x512x768)) fun _ =>
  .op (.store oM rOut k0_pay3 Finset.univ (View.stores_vmem_bits_univ h_S2x512x768 rfl) (.inl rfl)) fun _ => k

/-- The devices the kernel's `device_id` operands name. -/
abbrev dv1 (d : Dev nD) : Dev nD := ⟨k0_dev1 d, k0_dev1_lt d⟩
abbrev dv2 (d : Dev nD) : Dev nD := ⟨k0_dev2 d, k0_dev2_lt d⟩

/-- The whole body. -/
def structured : PB F :=
  .op .deviceId fun d =>
  .op (.semSignal (dv1 d, .tc) barS (1#32 : BitVec 32).toInt) fun _ =>
  .op (.semSignal (dv2 d, .tc) barS (1#32 : BitVec 32).toInt) fun _ =>
  .op (.semWait barS (2#32 : BitVec 32).toInt) fun _ =>
  fillK d <|
  sendR d 0 ⟨k0_dev3 d, k0_dev3_lt d⟩ ⟨k0_dev4 d, k0_dev4_lt d⟩ <|
  sendL d 0 ⟨k0_dev5 d, k0_dev5_lt d⟩ ⟨k0_dev6 d, k0_dev6_lt d⟩ <|
  blockMy d <|
  recvR d 0 <| sendR d 1 ⟨k0_dev7 d, k0_dev7_lt d⟩ ⟨k0_dev8 d, k0_dev8_lt d⟩ <|
  recvL d 0 <| sendL d 1 ⟨k0_dev9 d, k0_dev9_lt d⟩ ⟨k0_dev10 d, k0_dev10_lt d⟩ <|
  blockL d 0 <| blockR d 0 <|
  recvR d 1 <| sendR d 2 ⟨k0_dev11 d, k0_dev11_lt d⟩ ⟨k0_dev12 d, k0_dev12_lt d⟩ <|
  recvL d 1 <| sendL d 2 ⟨k0_dev13 d, k0_dev13_lt d⟩ ⟨k0_dev14 d, k0_dev14_lt d⟩ <|
  blockL d 1 <| blockR d 1 <|
  recvR d 2 <| sendR d 3 ⟨k0_dev15 d, k0_dev15_lt d⟩ ⟨k0_dev16 d, k0_dev16_lt d⟩ <|
  recvL d 2 <|
  blockL d 2 <| blockR d 2 <|
  recvR d 3 <| blockR d 3 <|
  doneR d 0 <| doneL d 0 <| doneR d 1 <| doneL d 1 <| doneR d 2 <| doneL d 2 <| doneR d 3 <|
  .ret ⟨⟩

set_option maxRecDepth 65536 in
theorem body_eq : cc0_body (F := F) xM (Memref.isWhole_whole _) wqM (Memref.isWhole_whole _) woM (Memref.isWhole_whole _)
    kM (Memref.isWhole_whole _) vM (Memref.isWhole_whole _) oM (Memref.isWhole_whole _) wqAll (Memref.isWhole_whole _)
    woAll (Memref.isWhole_whole _) qM (Memref.isWhole_whole _) cM (Memref.isWhole_whole _)
    cc0_scratch4 cc0_scratch5 cc0_scratch6 cc0_scratch7 = structured (F := F) := by
  chain_rfl

end Cert.KRun

end
-- ==== Proof.Proto.lean ====
/-
# The protocol of the two rings

Every device's slot `s` of the query (output) weights ends up holding device `s`'s weights. A device passes to the
right what came from the left and the other way round, four hops to the right and three to the left. The cells: a
barrier cell per device, and one cell for each of the 28 transfer semaphores.
-/
module

public import proofs.«01_k».proof.Proof.Struct
public import Idealize.ShloMosaic.Lib.Rounds
public import Idealize.ShloMosaic.Lib.Tactic
public import Idealize.ShloMosaic.Lib.Pipeline.Kit
public import Idealize.ShloMosaic.Lib.Pipeline.RegionTalk
public import Idealize.ShloMosaic.PureOps

@[expose] public section

noncomputable section

namespace Cert.KRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The ring -/

def nxt (c : Dev nD) : Dev nD := ⟨(c.val + 1) % 8, Nat.mod_lt _ (by decide)⟩
def prv (c : Dev nD) : Dev nD := ⟨(c.val + 7) % 8, Nat.mod_lt _ (by decide)⟩
theorem nxt_prv : ∀ c, nxt (prv c) = c := by decide
theorem prv_nxt : ∀ c, prv (nxt c) = c := by decide
def ring : Dev nD ≃ Dev nD := ⟨nxt, prv, prv_nxt, nxt_prv⟩
def ringBack : Dev nD ≃ Dev nD := ⟨prv, nxt, nxt_prv, prv_nxt⟩

/-- The device `r` places behind, and `r` places ahead. -/
def back (c : Dev nD) (r : ℕ) : Dev nD := ⟨(c.val + 16 - r) % 8, Nat.mod_lt _ (by decide)⟩
def ahead (c : Dev nD) (r : ℕ) : Dev nD := ⟨(c.val + r) % 8, Nat.mod_lt _ (by decide)⟩

/-! ## Slots and what they hold -/

/-- Slot `s`'s offset in either array. -/
def o3 (s : Dev nD) : Fin 3 → ℕ := ![s.val, 0, 0]
theorem o3_inbQ : ∀ s, InbQ (o3 s) := by decide +kernel
theorem o3_inbO : ∀ s, InbO (o3 s) := by decide +kernel

/-- A position of the whole array, within its slot. -/
def inSlotQ (i : S8x768x512.Idx) : S1x768x512.Idx :=
  fun a => ⟨if a = 0 then 0 else (i a).val, by revert i; fin_cases a <;> intro i <;> first | exact Nat.one_pos | exact (i _).isLt⟩
def inSlotO (i : S8x512x768.Idx) : S1x512x768.Idx :=
  fun a => ⟨if a = 0 then 0 else (i a).val, by revert i; fin_cases a <;> intro i <;> first | exact Nat.one_pos | exact (i _).isLt⟩

/-- The contents of the two arrays once every slot is filled: slot `s` holds device `s`'s weights. -/
def WQ (AQ : Dev nD → Vec F S768x512 .bf16) : (cc0_scratch0 : Ref sig .tc).ty.Contents (Elt F) :=
  fun i => k0_pay1 (AQ (i 0)) (inSlotQ i)
def WO (AO : Dev nD → Vec F S512x768 .bf16) : (cc0_scratch1 : Ref sig .tc).ty.Contents (Elt F) :=
  fun i => k0_pay2 (AO (i 0)) (inSlotO i)

/-- Device `c`'s slot `s` of the query (output) weights at share `q`, holding `f`. -/
def slQ (c s : Dev nD) (q : PosShare TreeShare) (f : (cc0_scratch0 : Ref sig .tc).ty.Contents (Elt F)) : sProp 𝕄 :=
  (c : Thread nD τ).loc cc0_scratch0 ↦[(rectQ (o3 s) (o3_inbQ s)).set]{q} f
def slO (c s : Dev nD) (q : PosShare TreeShare) (f : (cc0_scratch1 : Ref sig .tc).ty.Contents (Elt F)) : sProp 𝕄 :=
  (c : Thread nD τ).loc cc0_scratch1 ↦[(rectO (o3 s) (o3_inbO s)).set]{q} f

/-- Slot `s` of array `t` (0: query, 1: output weights) filled; at any contents. -/
def slot (AQ : Dev nD → Vec F S768x512 .bf16) (AO : Dev nD → Vec F S512x768 .bf16) (t : Fin 2) (c s : Dev nD) (q : PosShare TreeShare) : sProp 𝕄 :=
  if t = 0 then slQ c s q (WQ AQ) else slO c s q (WO AO)
def slotAny (t : Fin 2) (c s : Dev nD) : sProp 𝕄 :=
  if t = 0 then iprop(∃ f, slQ c s fullShare f) else iprop(∃ f, slO c s fullShare f)

variable (AQ : Dev nD → Vec F S768x512 .bf16) (AO : Dev nD → Vec F S512x768 .bf16)

theorem slotQ_set (s : Dev nD) (h : InbQ (o3 s)) : (slotQ (o3 s) h).view.set = (rectQ (o3 s) h).set :=
  (View.set_reshape _ _).trans (View.set_slice_whole _ _)
theorem slotO_set (s : Dev nD) (h : InbO (o3 s)) : (slotO (o3 s) h).view.set = (rectO (o3 s) h).set :=
  (View.set_reshape _ _).trans (View.set_slice_whole _ _)

/-- A slot copied onto the same slot. -/
theorem landQ (s : Dev nD) (h : InbQ (o3 s)) (fd fs : (cc0_scratch0 : Ref sig .tc).ty.Contents (Elt F)) :
    ∀ i ∈ (rectQ (o3 s) h).set, (slotQ (o3 s) h).view.write (Elt F) fd ((slotQ (o3 s) h).view.read (Elt F) fs) Finset.univ i = fs i := by
  intro i hi
  rw [← slotQ_set] at hi
  obtain ⟨x, -, rfl⟩ := Finset.mem_map.mp hi
  rw [View.write_emb_of_mem _ _ (Finset.mem_univ x)]
  rfl
theorem landO (s : Dev nD) (h : InbO (o3 s)) (fd fs : (cc0_scratch1 : Ref sig .tc).ty.Contents (Elt F)) :
    ∀ i ∈ (rectO (o3 s) h).set, (slotO (o3 s) h).view.write (Elt F) fd ((slotO (o3 s) h).view.read (Elt F) fs) Finset.univ i = fs i := by
  intro i hi
  rw [← slotO_set] at hi
  obtain ⟨x, -, rfl⟩ := Finset.mem_map.mp hi
  rw [View.write_emb_of_mem _ _ (Finset.mem_univ x)]
  rfl

/-! ## The cells and the schedule -/

abbrev barCell (c : Dev nD) : GSem nD τ sig := ((c : Thread nD τ), .reg barS)
abbrev dmaCell (c : Dev nD) (q : DmaSem sig) : GSem nD τ sig := ((c : Thread nD τ), .dma q)

/-- What one transfer of a slot counts. -/
abbrev NQ : ℕ := (slotQ (o3 0) (o3_inbQ 0)).view.dmaCredit
abbrev NO : ℕ := (slotO (o3 0) (o3_inbO 0)).view.dmaCredit
theorem NQ_pos : 0 < NQ := View.dmaCredit_pos _ (by decide)
theorem NO_pos : 0 < NO := View.dmaCredit_pos _ (by decide)

/-- Which array, which slot and which share of it the semaphore numbered `q` moves on device `c`. -/
def tOf (q : DmaSem sig) : Fin 2 :=
  if q.val < 10 then 0 else if q.val < 14 then 1 else if q.val < 18 then 0 else if q.val < 22 then 1
  else if q.val < 25 then 0 else if q.val < 28 then 1 else if q.val < 31 then 0 else 1
def slotOf (c : Dev nD) (q : DmaSem sig) : Dev nD :=
  if q.val < 14 then back c ((q.val - 6) % 4) else if q.val < 22 then back c (1 + (q.val - 14) % 4)
  else if q.val < 28 then ahead c ((q.val - 22) % 3) else ahead c (1 + (q.val - 28) % 3)
def shareOf (q : DmaSem sig) : PosShare TreeShare :=
  if q.val < 14 then fullShare.left else if q.val < 22 then fullShare
  else if q.val < 28 then (if (q.val - 22) % 3 = 0 then fullShare.right.left else fullShare.left) else fullShare

/-- Room for hop `r` to the right on the right neighbour, with its receive cells open; and to the left on the left one. -/
def landR (c : Dev nD) (r : Fin 4) (t : Fin 2) : sProp 𝕄 :=
  iprop(slotAny t (nxt c) (back c r.val) ∗ reached ER (dmaCell (nxt c) (rsR t r)) 0)
def landL (c : Dev nD) (r : Fin 3) (t : Fin 2) : sProp 𝕄 :=
  iprop(slotAny t (prv c) (ahead c r.val) ∗ reached ER (dmaCell (prv c) (rsL t r)) 0)
def landsR (c : Dev nD) : sProp 𝕄 :=
  iprop((landR c 0 0 ∗ landR c 0 1) ∗ (landR c 1 0 ∗ landR c 1 1) ∗ (landR c 2 0 ∗ landR c 2 1) ∗ (landR c 3 0 ∗ landR c 3 1))
def landsL (c : Dev nD) : sProp 𝕄 :=
  iprop((landL c 0 0 ∗ landL c 0 1) ∗ (landL c 1 0 ∗ landL c 1 1) ∗ (landL c 2 0 ∗ landL c 2 1))

/-- The duties: `true` on a barrier cell is the right neighbour's, `false` the left one's. -/
def dutiesOf : SemLoc sig → Finset Bool
  | .reg s => if s = barS then Finset.univ else ∅
  | .dma q => if 6 ≤ q.val then {true} else ∅
def amountOf : SemLoc sig → ℕ
  | .reg _ => 1
  | .dma q => if tOf q = 0 then NQ else NO
def payloadOf (c : Dev nD) : SemLoc sig → Bool → sProp 𝕄
  | .reg _, b => if b then landsR c else landsL c
  | .dma q, _ => slot AQ AO (tOf q) c (slotOf c q) (shareOf q)

def Rd : Rounds.Schedule (GSem nD τ sig) Bool 𝕄 where
  duties g r := if r = 0 ∧ g.1.2 = .tc then dutiesOf g.2 else ∅
  unitless _ := False
  amount g _ _ := amountOf g.2
  payload g _ d := payloadOf AQ AO g.1.1 g.2 d
  amount_pos g _ _ _ := by
    obtain ⟨_, s | q⟩ := g
    · exact Nat.one_pos
    · show 0 < (if tOf q = 0 then NQ else NO)
      split
      · exact NQ_pos
      · exact NO_pos

instance slot_storable (t : Fin 2) (c s : Dev nD) (q : PosShare TreeShare) : BI.Storable (upEmb : UEmb _ 𝕄) (slot AQ AO t c s q) := by
  unfold slot slQ slO; split <;> infer_instance
instance slotAny_storable (t : Fin 2) (c s : Dev nD) : BI.Storable (upEmb : UEmb _ 𝕄) (slotAny (F := F) t c s) := by
  unfold slotAny slQ slO; split <;> infer_instance
instance landR_storable (c : Dev nD) (r : Fin 4) (t : Fin 2) : BI.Storable (upEmb : UEmb _ 𝕄) (landR (F := F) c r t) := by
  unfold landR; infer_instance
instance landL_storable (c : Dev nD) (r : Fin 3) (t : Fin 2) : BI.Storable (upEmb : UEmb _ 𝕄) (landL (F := F) c r t) := by
  unfold landL; infer_instance

instance Rd_payload_storable (g : GSem nD τ sig) (r : ℕ) (d : Bool) : BI.Storable (upEmb : UEmb _ 𝕄) ((Rd AQ AO).payload g r d) := by
  show BI.Storable upEmb (payloadOf AQ AO g.1.1 g.2 d)
  obtain ⟨_, s | q⟩ := g
  · show BI.Storable upEmb (if d then landsR _ else landsL _)
    unfold landsR landsL
    split <;> infer_instance
  · show BI.Storable upEmb (slot AQ AO _ _ _ _)
    infer_instance

section Sched
variable (c : Dev nD)

theorem duties_bar : (Rd AQ AO).duties (barCell c) 0 = Finset.univ := by
  dsimp only [Rd, dutiesOf]
  rw [if_pos ⟨rfl, rfl⟩, if_pos rfl]
theorem duties_dma (q : DmaSem sig) (hq : 6 ≤ q.val) : (Rd AQ AO).duties (dmaCell c q) 0 = {true} := by
  dsimp only [Rd, dutiesOf]
  rw [if_pos ⟨rfl, rfl⟩, if_pos hq]
theorem duties_later (g : GSem nD τ sig) : ∀ r, 1 ≤ r → (Rd AQ AO).duties g r = ∅ :=
  fun r hr => by dsimp only [Rd]; rw [if_neg (fun h => by omega)]

theorem expect_bar : (Rd AQ AO).expect (barCell c) 0 = 2 := by
  unfold Schedule.expect Schedule.amountOf; rw [duties_bar]; rfl
theorem expect_dma (q : DmaSem sig) (hq : 6 ≤ q.val) : (Rd AQ AO).expect (dmaCell c q) 0 = amountOf (.dma q) := by
  unfold Schedule.expect Schedule.amountOf; rw [duties_dma AQ AO c q hq, Finset.sum_singleton]; rfl

theorem payload_dma (q : DmaSem sig) (d : Bool) : (Rd AQ AO).payload (dmaCell c q) 0 d = slot AQ AO (tOf q) c (slotOf c q) (shareOf q) := rfl
theorem payload_bar_true : (Rd AQ AO).payload (barCell c) 0 true = landsR c := rfl
theorem payload_bar_false : (Rd AQ AO).payload (barCell c) 0 false = landsL c := rfl

theorem rest_bar : bigSep ((Rd AQ AO).duties (barCell c) 0 \ ∅) (fun d => (Rd AQ AO).payload (barCell c) 0 d) = iprop(landsR c ∗ landsL c) := by
  rw [Finset.sdiff_empty, duties_bar, show (Finset.univ : Finset Bool) = {true, false} from by decide,
    bigSep_insert (by decide), bigSep_singleton]
  rfl
theorem rest_dma (q : DmaSem sig) (hq : 6 ≤ q.val) :
    bigSep ((Rd AQ AO).duties (dmaCell c q) 0 \ ∅) (fun d => (Rd AQ AO).payload (dmaCell c q) 0 d) = slot AQ AO (tOf q) c (slotOf c q) (shareOf q) := by
  rw [Finset.sdiff_empty, duties_dma AQ AO c q hq, bigSep_singleton]
  rfl

end Sched

/-! ## What each device owes at launch; the levels -/

/-- The units still owed, one transfer's (or one barrier unit) for every cell of the list; the first is paid first. -/
def owe : List (GSem nD τ sig) → CellTallies nD τ sig Unit
  | [] => 0
  | g :: l => owe l + tallyAt g () (amountOf g.2)

def owList (c : Dev nD) : List (GSem nD τ sig) :=
  [barCell (prv c), barCell (nxt c),
    dmaCell (nxt c) (rsR 0 0), dmaCell (nxt c) (rsR 1 0), dmaCell (prv c) (rsL 0 0), dmaCell (prv c) (rsL 1 0),
    dmaCell (nxt c) (rsR 0 1), dmaCell (nxt c) (rsR 1 1), dmaCell (prv c) (rsL 0 1), dmaCell (prv c) (rsL 1 1),
    dmaCell (nxt c) (rsR 0 2), dmaCell (nxt c) (rsR 1 2), dmaCell (prv c) (rsL 0 2), dmaCell (prv c) (rsL 1 2),
    dmaCell (nxt c) (rsR 0 3), dmaCell (nxt c) (rsR 1 3)]

abbrev O₀ (c : Dev nD) : CellTallies nD τ sig Unit := owe (owList c)

def L (g : GSem nD τ sig) : Finset Unit := if g.1.2 = .tc then {()} else ∅
def lvOf : SemLoc sig → ℕ
  | .reg s => if s = barS then 1 else 0
  | .dma q => if 14 ≤ q.val ∧ q.val < 22 then 2 + (q.val - 14) % 4 else if 28 ≤ q.val then 2 + (q.val - 28) % 3 else 0
/-- A receive cell of hop `r` at `2 + r`, the barrier cells at 1, the rest at 0. -/
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem owe_pos {l : List (GSem nD τ sig)} {g : GSem nD τ sig} {u : Unit} (h : 0 < owe l g u) : g ∈ l := by
  induction l with
  | nil => exact absurd h (Nat.lt_irrefl 0)
  | cons a l ih =>
    rw [owe, Pi.add_apply, Finsupp.add_apply] at h
    rcases Nat.add_pos_iff_pos_or_pos.mp h with h | h
    · exact List.mem_cons_of_mem _ (ih h)
    · rw [tallyAt_apply] at h
      split at h
      · next hg => exact hg.1 ▸ List.mem_cons_self
      · exact absurd h (Nat.lt_irrefl 0)

/-- What is owed at one cell counts the list's entries. -/
theorem owe_apply (l : List (GSem nD τ sig)) (g : GSem nD τ sig) (u : Unit) : owe l g u = l.count g * amountOf g.2 := by
  induction l with
  | nil => simp [owe]
  | cons a l ih =>
    rw [owe, Pi.add_apply, Finsupp.add_apply, ih, tallyAt_apply, List.count_cons]
    by_cases h : g = a
    · subst h; simp [Nat.add_mul]
    · rw [if_neg (fun h' => h h'.1)]
      simp [Ne.symm h, beq_iff_eq, fun e : a = g => h e.symm]

theorem mayWait (c : Dev nD) (sm : SemLoc sig) (l : List (GSem nD τ sig)) (h : ∀ g ∈ l, g.1.2 = .tc ∧ lvOf sm < lvOf g.2) :
    (levAts L lv : sProp 𝕄) ⊢ MayWait (c : Thread nD τ) sm () (owe l) :=
  MayOwe.of_cut (L := L) (lev := lv) (lvOf sm) (fun p hp => by rw [Finset.mem_singleton.mp hp, L_tc]; exact Finset.mem_singleton_self _)
    (fun g u hg => by
      obtain ⟨h1, -⟩ := h g (owe_pos hg)
      unfold L; rw [if_pos h1]; exact Finset.mem_singleton_self _)
    (fun p hp => by rw [Finset.mem_singleton.mp hp]; exact le_refl _)
    (fun g u hg => (h g (owe_pos hg)).2)

end Cert.KRun

end
-- ==== Proof.Block.lean ====
/-
# One block: sixteen heads

A block stores its queries whole, then each head stores its piece of the attention output; the sixteen pieces make
up the whole, so what the block's buffer holds in the end does not depend on what it held before.
-/
module

public import proofs.«01_k».proof.Proof.Proto

@[expose] public section

noncomputable section

namespace Cert.KRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

/-! ## The value of a block -/

/-- Device `s`'s rows for batch entry `b` and head `h` in the keys and the values. -/
def okvS (s : Dev nD) (b : Fin 2) (h : Fin 8) : Fin 2 → ℕ := ![4096 * b.val + 512 * s.val + 64 * h.val, 0]
theorem okvS_inb (s : Dev nD) (b : Fin 2) (h : Fin 8) : InbKV (okvS s b h) := by
  intro a
  have hs : s.val < 8 := s.isLt
  have hb := b.isLt
  have hh := h.isLt
  fin_cases a
  · show 4096 * b.val + 512 * s.val + 64 * h.val + 64 ≤ 8192
    omega
  · show 0 + 512 ≤ 512
    omega

/-- The piece of the keys or values read there; the piece of the queries for a head. -/
def kvAt (kt : (cc0_stg3_0 : Ref sig .tc).ty.Contents (Elt F)) (s : Dev nD) (b : Fin 2) (h : Fin 8) : Vec F S64x512 .bf16 :=
  kM.view.readAt (Elt F) (rectKV (okvS s b h) (okvS_inb s b h)).toLoadRect kt
def vvAt (vt : (cc0_stg4_0 : Ref sig .tc).ty.Contents (Elt F)) (s : Dev nD) (b : Fin 2) (h : Fin 8) : Vec F S64x512 .bf16 :=
  vM.view.readAt (Elt F) (rectKV (okvS s b h) (okvS_inb s b h)).toLoadRect vt
def qAt (q : (cc0_scratch2 : Ref sig .tc).ty.Contents (Elt F)) (b : Fin 2) (h : Fin 8) : Vec F S512x64 .bf16 :=
  qM.view.readAt (Elt F) (rectH (offH b h) (offH_inb b h)).toLoadRect q

/-- One head's result. -/
def headOut (kt : (cc0_stg3_0 : Ref sig .tc).ty.Contents (Elt F)) (vt : (cc0_stg4_0 : Ref sig .tc).ty.Contents (Elt F)) (s : Dev nD)
    (q : (cc0_scratch2 : Ref sig .tc).ty.Contents (Elt F)) (b : Fin 2) (h : Fin 8) : FVec F S512x64 .bf16 :=
  headVal biasVal (kvAt kt s b h) (vvAt vt s b h) (qAt q b h)

/-- Which head a position of the attention output belongs to, and where in it. -/
def headOfIdx (i : S1024x512.Idx) : Fin 2 × Fin 8 :=
  (⟨(i 0).val / 512, by have : (i 0).val < 1024 := (i 0).isLt; omega⟩, ⟨(i 1).val / 64, by have : (i 1).val < 512 := (i 1).isLt; omega⟩)
def inHead (i : S1024x512.Idx) : S512x64.Idx :=
  fun a => ⟨(i a).val % S512x64.size a, Nat.mod_lt _ (by fin_cases a <;> decide)⟩

/-- The attention output of device `s`'s block. -/
def ctxFull (kt : (cc0_stg3_0 : Ref sig .tc).ty.Contents (Elt F)) (vt : (cc0_stg4_0 : Ref sig .tc).ty.Contents (Elt F)) (s : Dev nD)
    (q : (cc0_scratch2 : Ref sig .tc).ty.Contents (Elt F)) : (cc0_scratch3 : Ref sig .tc).ty.Contents (Elt F) :=
  fun i => headOut kt vt s q (headOfIdx i).1 (headOfIdx i).2 (inHead i)

/-- A position of a head's piece is read back as that head's and that place. -/
theorem head_emb (b : Fin 2) (h : Fin 8) (x : S512x64.Idx) :
    headOfIdx ((rectH (offH b h) (offH_inb b h)).emb x) = (b, h) ∧ inHead ((rectH (offH b h) (offH_inb b h)).emb x) = x := by
  have h0 : (x 0).val < 512 := (x 0).isLt
  have h1 : (x 1).val < 64 := (x 1).isLt
  have e0 : ((rectH (offH b h) (offH_inb b h)).emb x 0).val = 512 * b.val + 1 * (x 0).val := rfl
  have e1 : ((rectH (offH b h) (offH_inb b h)).emb x 1).val = 64 * h.val + 1 * (x 1).val := rfl
  refine ⟨Prod.ext (Fin.ext ?_) (Fin.ext ?_), funext fun a => Fin.ext ?_⟩
  · show ((rectH (offH b h) (offH_inb b h)).emb x 0).val / 512 = b.val
    rw [e0]; omega
  · show ((rectH (offH b h) (offH_inb b h)).emb x 1).val / 64 = h.val
    rw [e1]; omega
  · fin_cases a
    · show ((rectH (offH b h) (offH_inb b h)).emb x 0).val % 512 = (x 0).val
      rw [e0]; omega
    · show ((rectH (offH b h) (offH_inb b h)).emb x 1).val % 64 = (x 1).val
      rw [e1]; omega

theorem mem_head (i : S1024x512.Idx) :
    i = (rectH (offH (headOfIdx i).1 (headOfIdx i).2) (offH_inb (headOfIdx i).1 (headOfIdx i).2)).emb (inHead i) := by
  funext a
  refine Fin.ext ?_
  fin_cases a
  · show (i 0).val = 512 * ((i 0).val / 512) + 1 * ((i 0).val % 512)
    omega
  · show (i 1).val = 64 * ((i 1).val / 64) + 1 * ((i 1).val % 64)
    omega

section Heads
variable (kt : (cc0_stg3_0 : Ref sig .tc).ty.Contents (Elt F)) (vt : (cc0_stg4_0 : Ref sig .tc).ty.Contents (Elt F)) (s : Dev nD)
  (q : (cc0_scratch2 : Ref sig .tc).ty.Contents (Elt F))

/-- The attention output after one head's store; after a list of heads. -/
def ctxStep (p : Fin 2 × Fin 8) (f : (cc0_scratch3 : Ref sig .tc).ty.Contents (Elt F)) : (cc0_scratch3 : Ref sig .tc).ty.Contents (Elt F) :=
  (cM.access (rectH (offH p.1 p.2) (offH_inb p.1 p.2))).write (Elt F) f (headOut kt vt s q p.1 p.2) Finset.univ
def ctxAfter : List (Fin 2 × Fin 8) → (cc0_scratch3 : Ref sig .tc).ty.Contents (Elt F) → (cc0_scratch3 : Ref sig .tc).ty.Contents (Elt F)
  | [], f => f
  | p :: ps, f => ctxAfter ps (ctxStep kt vt s q p f)

theorem write_head (b : Fin 2) (h : Fin 8) (f : (cc0_scratch3 : Ref sig .tc).ty.Contents (Elt F)) (w : FVec F S512x64 .bf16) (x : S512x64.Idx) :
    (cM.access (rectH (offH b h) (offH_inb b h))).write (Elt F) f w Finset.univ ((rectH (offH b h) (offH_inb b h)).emb x) = w x :=
  View.write_emb_of_mem (v := cM.access (rectH (offH b h) (offH_inb b h))) _ _ (Finset.mem_univ _)

theorem ctxStep_apply (p : Fin 2 × Fin 8) (f) (i : S1024x512.Idx) :
    ctxStep kt vt s q p f i = if headOfIdx i = p then ctxFull kt vt s q i else f i := by
  by_cases h : headOfIdx i = p
  · rw [if_pos h]
    subst h
    exact (congrArg (ctxStep kt vt s q (headOfIdx i) f) (mem_head i)).trans (write_head _ _ f _ _)
  · rw [if_neg h]
    refine View.write_of_not_mem _ _ _ ?_
    intro hm
    obtain ⟨x, -, e⟩ := Finset.mem_map.mp hm
    exact h (by rw [← e]; exact (head_emb p.1 p.2 x).1)

theorem ctxAfter_apply (ps : List (Fin 2 × Fin 8)) (f) (i : S1024x512.Idx) :
    ctxAfter kt vt s q ps f i = if headOfIdx i ∈ ps then ctxFull kt vt s q i else f i := by
  induction ps generalizing f with
  | nil => rw [if_neg List.not_mem_nil]; rfl
  | cons p ps ih =>
    rw [ctxAfter, ih]
    by_cases h : headOfIdx i ∈ ps
    · rw [if_pos h, if_pos (List.mem_cons_of_mem _ h)]
    · rw [if_neg h, ctxStep_apply]
      by_cases hp : headOfIdx i = p
      · rw [if_pos hp, if_pos (hp ▸ List.mem_cons_self)]
      · rw [if_neg hp, if_neg (fun hm => (List.mem_cons.mp hm).elim hp h)]

theorem mem_headList : ∀ p : Fin 2 × Fin 8, p ∈ headList := by decide
theorem ctxAfter_all (f) : ctxAfter kt vt s q headList f = ctxFull kt vt s q :=
  funext fun i => by rw [ctxAfter_apply, if_pos (mem_headList _)]

end Heads

/-! ## The triples -/

/-- A whole buffer of device `c`. -/
abbrev pt (c : Dev nD) (b : Ref sig .tc) (f : b.ty.Contents (Elt F)) : sProp 𝕄 := (Memref.whole b).view.loc (c : Thread nD τ) ↦{fullShare} f

abbrev wpc (c : Dev nD) (p : PB F) (K : PUnit → sProp 𝕄) : sProp 𝕄 := wp frame (wpE (defs₀ (F := F)) 𝒱₀ (c : Thread nD τ) none) Set.univ p K

theorem headK_wp (c s : Dev nD) (b : Fin 2) (h : Fin 8) (okv : Fin 2 → ℕ) (hkv : InbKV okv) (ho : okv = okvS s b h)
    (kt : (cc0_stg3_0 : Ref sig .tc).ty.Contents (Elt F)) (vt : (cc0_stg4_0 : Ref sig .tc).ty.Contents (Elt F))
    (q : (cc0_scratch2 : Ref sig .tc).ty.Contents (Elt F)) (f : (cc0_scratch3 : Ref sig .tc).ty.Contents (Elt F)) (k : PB F) (K : PUnit → sProp 𝕄) :
    iprop((pt c cc0_stg3_0 kt ∗ pt c cc0_stg4_0 vt ∗ pt c cc0_scratch2 q ∗ pt c cc0_scratch3 f)
        ∗ ((pt c cc0_stg3_0 kt ∗ pt c cc0_stg4_0 vt ∗ pt c cc0_scratch2 q ∗ pt c cc0_scratch3 (ctxStep kt vt s q (b, h) f)) -∗ wpc c k K))
      ⊢ wpc c (headK biasVal okv hkv (offH b h) (offH_inb b h) (offH_packed b h) k) K := by
  subst ho
  unfold headK wpc
  iintro ⟨⟨Hk, Hv, Hq, Hc⟩, HK⟩
  iapply (wp_load 𝒱₀ (c : Thread nD τ) none Set.univ (m := kM) (Finset.subset_univ _)) $$ Hk
  iintro Hk
  iapply (wp_load 𝒱₀ (c : Thread nD τ) none Set.univ (m := vM) (Finset.subset_univ _)) $$ Hv
  iintro Hv
  iapply (wp_load 𝒱₀ (c : Thread nD τ) none Set.univ (m := qM) (Finset.subset_univ _)) $$ Hq
  iintro Hq
  iapply (wp_load 𝒱₀ (c : Thread nD τ) none Set.univ (m := cM) (Finset.subset_univ _)) $$ Hc
  iintro Hc
  iapply (wp_store 𝒱₀ (c : Thread nD τ) none Set.univ (m := cM) (r := rectH (offH b h) (offH_inb b h)) (Mk := Finset.univ) (Finset.subset_univ _)) $$ Hc
  iintro Hc
  iapply HK
  isplitl [Hk]; · iexact Hk
  isplitl [Hv]; · iexact Hv
  isplitl [Hq]; · iexact Hq
  iexact Hc

theorem headsK_wp (c s : Dev nD) (okv : Fin 2 → Fin 8 → Fin 2 → ℕ) (hkv : ∀ b h, InbKV (okv b h)) (ho : ∀ b h, okv b h = okvS s b h)
    (kt : (cc0_stg3_0 : Ref sig .tc).ty.Contents (Elt F)) (vt : (cc0_stg4_0 : Ref sig .tc).ty.Contents (Elt F))
    (q : (cc0_scratch2 : Ref sig .tc).ty.Contents (Elt F)) (k : PB F) (K : PUnit → sProp 𝕄) (ps : List (Fin 2 × Fin 8)) :
    ∀ f : (cc0_scratch3 : Ref sig .tc).ty.Contents (Elt F),
    iprop((pt c cc0_stg3_0 kt ∗ pt c cc0_stg4_0 vt ∗ pt c cc0_scratch2 q ∗ pt c cc0_scratch3 f)
        ∗ ((pt c cc0_stg3_0 kt ∗ pt c cc0_stg4_0 vt ∗ pt c cc0_scratch2 q ∗ pt c cc0_scratch3 (ctxAfter kt vt s q ps f)) -∗ wpc c k K))
      ⊢ wpc c (headsK biasVal okv hkv ps k) K := by
  induction ps with
  | nil =>
    intro f
    iintro ⟨H, HK⟩
    iapply HK
    iexact H
  | cons p ps ih =>
    intro f
    iintro ⟨H, HK⟩
    iapply (headK_wp c s p.1 p.2 (okv p.1 p.2) (hkv p.1 p.2) (ho p.1 p.2) kt vt q f _ K)
    isplitl [H]; · iexact H
    iintro H
    iapply (ih (ctxStep kt vt s q p f))
    isplitl [H]; · iexact H
    iexact HK

variable (AQ : Dev nD → Vec F S768x512 .bf16) (AO : Dev nD → Vec F S512x768 .bf16)

theorem inSlotQ_emb (s : Dev nD) (h : InbQ (o3 s)) (x : S1x768x512.Idx) :
    (rectQ (o3 s) h).emb x 0 = s ∧ inSlotQ ((rectQ (o3 s) h).emb x) = x := by
  have h0 : (x 0).val < 1 := (x 0).isLt
  have e0 : ((rectQ (o3 s) h).emb x 0).val = s.val + 1 * (x 0).val := rfl
  refine ⟨Fin.ext (by rw [e0]; omega), funext fun a => Fin.ext ?_⟩
  fin_cases a
  · show 0 = (x 0).val
    omega
  · show 0 + 1 * (x 1).val = (x 1).val
    omega
  · show 0 + 1 * (x 2).val = (x 2).val
    omega
theorem inSlotO_emb (s : Dev nD) (h : InbO (o3 s)) (x : S1x512x768.Idx) :
    (rectO (o3 s) h).emb x 0 = s ∧ inSlotO ((rectO (o3 s) h).emb x) = x := by
  have h0 : (x 0).val < 1 := (x 0).isLt
  have e0 : ((rectO (o3 s) h).emb x 0).val = s.val + 1 * (x 0).val := rfl
  refine ⟨Fin.ext (by rw [e0]; omega), funext fun a => Fin.ext ?_⟩
  fin_cases a
  · show 0 = (x 0).val
    omega
  · show 0 + 1 * (x 1).val = (x 1).val
    omega
  · show 0 + 1 * (x 2).val = (x 2).val
    omega

/-- Reading slot `s` of the filled arrays; filling it. -/
theorem readQ (s : Dev nD) (h : InbQ (o3 s)) : wqAll.view.readAt (Elt F) (rectQ (o3 s) h).toLoadRect (WQ AQ) = k0_pay1 (AQ s) := by
  funext x
  show WQ AQ ((rectQ (o3 s) h).emb x) = _
  unfold WQ
  rw [(inSlotQ_emb s h x).1, (inSlotQ_emb s h x).2]
theorem readO (s : Dev nD) (h : InbO (o3 s)) : woAll.view.readAt (Elt F) (rectO (o3 s) h).toLoadRect (WO AO) = k0_pay2 (AO s) := by
  funext x
  show WO AO ((rectO (o3 s) h).emb x) = _
  unfold WO
  rw [(inSlotO_emb s h x).1, (inSlotO_emb s h x).2]
theorem fillQ (s : Dev nD) (h : InbQ (o3 s)) (f : (cc0_scratch0 : Ref sig .tc).ty.Contents (Elt F)) :
    ∀ i ∈ (rectQ (o3 s) h).set, (wqAll.access (rectQ (o3 s) h)).write (Elt F) f (k0_pay1 (AQ s)) Finset.univ i = WQ AQ i := by
  intro i hi
  rw [← Rect.map_emb_univ] at hi
  obtain ⟨x, -, rfl⟩ := Finset.mem_map.mp hi
  refine (View.write_emb_of_mem (v := wqAll.access (rectQ (o3 s) h)) _ _ (Finset.mem_univ x)).trans ?_
  unfold WQ
  rw [(inSlotQ_emb s h x).1, (inSlotQ_emb s h x).2]
  rfl
theorem fillO (s : Dev nD) (h : InbO (o3 s)) (f : (cc0_scratch1 : Ref sig .tc).ty.Contents (Elt F)) :
    ∀ i ∈ (rectO (o3 s) h).set, (woAll.access (rectO (o3 s) h)).write (Elt F) f (k0_pay2 (AO s)) Finset.univ i = WO AO i := by
  intro i hi
  rw [← Rect.map_emb_univ] at hi
  obtain ⟨x, -, rfl⟩ := Finset.mem_map.mp hi
  refine (View.write_emb_of_mem (v := woAll.access (rectO (o3 s) h)) _ _ (Finset.mem_univ x)).trans ?_
  unfold WO
  rw [(inSlotO_emb s h x).1, (inSlotO_emb s h x).2]
  rfl

/-- The result with device `s`'s block added. -/
def blockOut (x : (cc0_stg0_0 : Ref sig .tc).ty.Contents (Elt F)) (kt : (cc0_stg3_0 : Ref sig .tc).ty.Contents (Elt F))
    (vt : (cc0_stg4_0 : Ref sig .tc).ty.Contents (Elt F)) (s : Dev nD) (o : (cc0_stg5_0 : Ref sig .tc).ty.Contents (Elt F)) :
    (cc0_stg5_0 : Ref sig .tc).ty.Contents (Elt F) :=
  outVal (k0_pay2 (AO s)) o (ctxFull kt vt s (qVal (k0_pay1 (AQ s)) x))

/-- What a block works on besides the slot: inputs, its two buffers, the result so far. -/
def work (c : Dev nD) (x : (cc0_stg0_0 : Ref sig .tc).ty.Contents (Elt F)) (kt : (cc0_stg3_0 : Ref sig .tc).ty.Contents (Elt F))
    (vt : (cc0_stg4_0 : Ref sig .tc).ty.Contents (Elt F)) (o : (cc0_stg5_0 : Ref sig .tc).ty.Contents (Elt F)) : sProp 𝕄 :=
  iprop(pt c cc0_stg0_0 x ∗ pt c cc0_stg3_0 kt ∗ pt c cc0_stg4_0 vt ∗ (∃ f, pt c cc0_scratch2 f) ∗ (∃ f, pt c cc0_scratch3 f) ∗ pt c cc0_stg5_0 o)

theorem read_rQ (f : (cc0_scratch3 : Ref sig .tc).ty.Contents (Elt F)) : cM.view.readAt (Elt F) rQ.toLoadRect f = f :=
  Memref.readAt_unit_zero _ _ (by decide) _ _
theorem read_rX (f : (cc0_stg0_0 : Ref sig .tc).ty.Contents (Elt F)) : xM.view.readAt (Elt F) rX.toLoadRect f = f :=
  Memref.readAt_unit_zero _ _ (by decide) _ _
theorem read_rOut (f : (cc0_stg5_0 : Ref sig .tc).ty.Contents (Elt F)) : oM.view.readAt (Elt F) rOut.toLoadRect f = f :=
  Memref.readAt_unit_zero _ _ (by decide) _ _
theorem write_rQ (f w : (cc0_scratch2 : Ref sig .tc).ty.Contents (Elt F)) : (qM.access rQ).write (Elt F) f w Finset.univ = w :=
  Memref.write_access_unit_zero_univ _ _ (by decide) _ _ _
theorem write_rOut (f w : (cc0_stg5_0 : Ref sig .tc).ty.Contents (Elt F)) : (oM.access rOut).write (Elt F) f w Finset.univ = w :=
  Memref.write_access_unit_zero_univ _ _ (by decide) _ _ _

theorem blockK_wp (c s : Dev nD) (q₁ q₂ : PosShare TreeShare) (o6 : Fin 3 → ℕ) (h6 : InbQ o6) (o7 : Fin 3 → ℕ) (h7 : InbO o7)
    (okv : Fin 2 → Fin 8 → Fin 2 → ℕ) (hkv : ∀ b h, InbKV (okv b h)) (e6 : o6 = o3 s) (e7 : o7 = o3 s) (ho : ∀ b h, okv b h = okvS s b h)
    (x : (cc0_stg0_0 : Ref sig .tc).ty.Contents (Elt F)) (kt : (cc0_stg3_0 : Ref sig .tc).ty.Contents (Elt F))
    (vt : (cc0_stg4_0 : Ref sig .tc).ty.Contents (Elt F)) (o : (cc0_stg5_0 : Ref sig .tc).ty.Contents (Elt F)) (k : PB F) (K : PUnit → sProp 𝕄) :
    iprop((slot AQ AO 0 c s q₁ ∗ slot AQ AO 1 c s q₂ ∗ work c x kt vt o)
        ∗ ((slot AQ AO 0 c s q₁ ∗ slot AQ AO 1 c s q₂ ∗ work c x kt vt (blockOut AQ AO x kt vt s o)) -∗ wpc c k K))
      ⊢ wpc c (blockK biasVal o6 h6 o7 h7 okv hkv k) K := by
  subst e6 e7
  rw [show slot AQ AO 0 c s q₁ = slQ c s q₁ (WQ AQ) from if_pos rfl, show slot AQ AO 1 c s q₂ = slO c s q₂ (WO AO) from if_neg (by decide)]
  unfold blockK wpc work slQ slO
  iintro ⟨⟨Hwq, Hwo, Hx, Hk, Hv, ⟨%fq, Hq⟩, ⟨%fc, Hc⟩, Ho⟩, HK⟩
  iapply (wp_load 𝒱₀ (c : Thread nD τ) none Set.univ (m := wqAll) (S := (rectQ (o3 s) (o3_inbQ s)).set) (q := q₁)
    (f := WQ AQ) (r := (rectQ (o3 s) h6).toLoadRect) (fun i hi => by obtain ⟨x, hx, rfl⟩ := Finset.mem_map.mp hi; exact hx)) $$ Hwq
  iintro Hwq
  iapply (wp_load 𝒱₀ (c : Thread nD τ) none Set.univ (m := woAll) (S := (rectO (o3 s) (o3_inbO s)).set)
    (f := WO AO) (r := (rectO (o3 s) h7).toLoadRect) (fun i hi => by obtain ⟨x, hx, rfl⟩ := Finset.mem_map.mp hi; exact hx)) $$ Hwo
  iintro Hwo
  iapply (wp_load 𝒱₀ (c : Thread nD τ) none Set.univ (m := xM) (Finset.subset_univ _)) $$ Hx
  iintro Hx
  iapply (wp_load 𝒱₀ (c : Thread nD τ) none Set.univ (m := qM) (Finset.subset_univ _)) $$ Hq
  iintro Hq
  iapply (wp_store 𝒱₀ (c : Thread nD τ) none Set.univ (m := qM) (r := rQ) (Mk := Finset.univ) (Finset.subset_univ _)) $$ Hq
  iintro Hq
  rw [write_rQ, readQ, readO, read_rX]
  iapply (headsK_wp c s okv hkv ho kt vt (qVal (k0_pay1 (AQ s)) x) _ K headList fc)
  isplitl [Hk Hv Hq Hc]
  · isplitl [Hk]; · iexact Hk
    isplitl [Hv]; · iexact Hv
    isplitl [Hq]; · iexact Hq
    iexact Hc
  rw [ctxAfter_all]
  iintro ⟨Hk, Hv, Hq, Hc⟩
  iapply (wp_load 𝒱₀ (c : Thread nD τ) none Set.univ (m := oM) (Finset.subset_univ _)) $$ Ho
  iintro Ho
  iapply (wp_load 𝒱₀ (c : Thread nD τ) none Set.univ (m := cM) (Finset.subset_univ _)) $$ Hc
  iintro Hc
  iapply (wp_load 𝒱₀ (c : Thread nD τ) none Set.univ (m := oM) (Finset.subset_univ _)) $$ Ho
  iintro Ho
  iapply (wp_store 𝒱₀ (c : Thread nD τ) none Set.univ (m := oM) (r := rOut) (Mk := Finset.univ) (Finset.subset_univ _)) $$ Ho
  iintro Ho
  rw [write_rOut, read_rOut, read_rQ]
  iapply HK
  isplitl [Hwq]; · iexact Hwq
  isplitl [Hwo]; · iexact Hwo
  isplitl [Hx]; · iexact Hx
  isplitl [Hk]; · iexact Hk
  isplitl [Hv]; · iexact Hv
  isplitl [Hq]; · iexists _; iexact Hq
  isplitl [Hc]; · iexists _; iexact Hc
  iexact Ho

end Cert.KRun

end
-- ==== Proof.Hops.lean ====
/-
# The hops

One send, one wait, and the hops made of them: each hop moves a slot of both arrays.
-/
module

public import proofs.«01_k».proof.Proof.Block

@[expose] public section

noncomputable section

namespace Cert.KRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (AQ : Dev nD → Vec F S768x512 .bf16) (AO : Dev nD → Vec F S512x768 .bf16)

/-! ## The cells' invariants -/

/-- The kernel's own transfer semaphores, in order. -/
def dq (k : Fin 28) : DmaSem sig := ⟨6 + k.val, by revert k; decide⟩
abbrev osem (k : Fin 28) : SemLoc sig := .dma (dq k)
theorem osem_inj : Function.Injective osem := by decide

def barEmb : Dev nD ↪ GSem nD τ sig := ⟨fun c => barCell c, fun _ _ h => congrArg (fun g : GSem nD τ sig => g.1.1) h⟩
def scEmb : Dev nD × Fin 28 ↪ GSem nD τ sig :=
  ⟨fun ck => ((ck.1 : Thread nD τ), osem ck.2), fun _ _ h =>
    Prod.ext (congrArg (fun g : GSem nD τ sig => g.1.1) h) (osem_inj (congrArg Prod.snd h))⟩
abbrev barCells : Finset (GSem nD τ sig) := Finset.univ.map barEmb
abbrev scCells : Finset (GSem nD τ sig) := Finset.univ.map scEmb

/-- All the cells' invariants, and that every barrier cell is at its round. -/
def records (κ : GSem nD τ sig → ℕ) : sProp 𝕄 :=
  iprop((bigSep (barCells ∪ scCells) fun g => cellInv ER (Rd AQ AO) (κ g) g) ∗ bigSep barCells fun g => reached ER g 0)
instance records_persistent (κ : GSem nD τ sig → ℕ) : BI.Persistent (records AQ AO κ) := by unfold records; infer_instance

theorem dq_sub (q : DmaSem sig) (hq : 6 ≤ q.val) : ∃ k, dq k = q :=
  ⟨⟨q.val - 6, by have : q.val < 34 := q.isLt; omega⟩, Fin.ext (by show 6 + (q.val - 6) = q.val; omega)⟩

theorem inv_at (κ : GSem nD τ sig → ℕ) {g : GSem nD τ sig} (hg : g ∈ (barCells ∪ scCells : Finset (GSem nD τ sig))) :
    (bigSep (barCells ∪ scCells) fun g => (cellInv ER (Rd AQ AO) (κ g) g : sProp 𝕄)) ⊢ cellInv ER (Rd AQ AO) (κ g) g :=
  bigSep_elim hg
theorem dma_mem (c : Dev nD) (q : DmaSem sig) (hq : 6 ≤ q.val) : dmaCell c q ∈ (barCells ∪ scCells : Finset (GSem nD τ sig)) := by
  obtain ⟨k, rfl⟩ := dq_sub q hq
  exact Finset.mem_union_right barCells (Finset.mem_map_of_mem scEmb (Finset.mem_univ (c, k)))
theorem bar_mem (c : Dev nD) : barCell c ∈ (barCells ∪ scCells : Finset (GSem nD τ sig)) :=
  Finset.mem_union_left scCells (Finset.mem_map_of_mem barEmb (Finset.mem_univ c))
theorem reached_at (c : Dev nD) : (bigSep barCells fun g => (reached ER g 0 : sProp 𝕄)) ⊢ reached ER (barCell c) 0 :=
  bigSep_elim (Finset.mem_map_of_mem barEmb (Finset.mem_univ c))

theorem inv_dma (κ : GSem nD τ sig → ℕ) (c : Dev nD) (q : DmaSem sig) (hq : 6 ≤ q.val) :
    records AQ AO κ ⊢ cellInv ER (Rd AQ AO) (κ (dmaCell c q)) (dmaCell c q) := by
  unfold records
  iintro ⟨H, -⟩
  iapply (inv_at AQ AO κ (dma_mem c q hq)) $$ H
theorem inv_bar (κ : GSem nD τ sig → ℕ) (c : Dev nD) : records AQ AO κ ⊢ cellInv ER (Rd AQ AO) (κ (barCell c)) (barCell c) := by
  unfold records
  iintro ⟨H, -⟩
  iapply (inv_at AQ AO κ (bar_mem c)) $$ H
theorem reached_bar (κ : GSem nD τ sig → ℕ) (c : Dev nD) : records AQ AO κ ⊢ reached ER (barCell c) 0 := by
  unfold records
  iintro ⟨-, H⟩
  iapply (reached_at (F := F) c) $$ H

theorem close (κ : ℕ) (g : GSem nD τ sig) :
    iprop(cellInv ER (Rd AQ AO) κ g ∗ atPos ER g (0 + 1) ∅ 0) ⊢ (|={Set.univ}=> semVal g 0 : sProp 𝕄) :=
  Rounds.cell_close ER (Rd AQ AO) (Set.mem_univ κ) id (duties_later AQ AO g)

/-! ## One send, one wait -/

/-- The device owes what the list says. -/
def ow (c : Dev nD) (l : List (GSem nD τ sig)) : sProp 𝕄 := iprop(∃ W, owes (c : Thread nD τ) (owe l) W)
/-- The right to wait for one transfer. -/
abbrev crd (c : Dev nD) (q : DmaSem sig) : sProp 𝕄 := cred (tallyAt (dmaCell c q) () (amountOf (.dma q)))
theorem crdQ (c : Dev nD) (q : DmaSem sig) (h : tOf q = 0) : (crd c q : sProp 𝕄) = cred (tallyAt (dmaCell c q) () NQ) :=
  congrArg (fun n => (cred (tallyAt (dmaCell c q) () n) : sProp 𝕄)) (if_pos h)
theorem crdO (c : Dev nD) (q : DmaSem sig) (h : tOf q = 1) : (crd c q : sProp 𝕄) = cred (tallyAt (dmaCell c q) () NO) :=
  congrArg (fun n => (cred (tallyAt (dmaCell c q) () n) : sProp 𝕄)) (if_neg (by rw [h]; decide))
theorem crdQ' (c s : Dev nD) (q : DmaSem sig) (h : tOf q = 0) (hi : InbQ (o3 s)) :
    (crd c q : sProp 𝕄) ⊢ cred (tallyAt (dmaCell c q) () (slotQ (o3 s) hi).view.dmaCredit) := Entails.of_eq (crdQ c q h)
theorem crdO' (c s : Dev nD) (q : DmaSem sig) (h : tOf q = 1) (hi : InbO (o3 s)) :
    (crd c q : sProp 𝕄) ⊢ cred (tallyAt (dmaCell c q) () (slotO (o3 s) hi).view.dmaCredit) := Entails.of_eq (crdO c q h)
/-- A send's tokens: its own send cell's duty, the receive cell's duty on `d`. -/
def stok (c d : Dev nD) (ss rs : DmaSem sig) : sProp 𝕄 :=
  iprop(dutyTok ER (dmaCell c ss) 0 true ∗ reached ER (dmaCell c ss) 0 ∗ dutyTok ER (dmaCell d rs) 0 true)

theorem sendQ_wp (κ : GSem nD τ sig → ℕ) (c d s : Dev nD) (ss rs : DmaSem sig) (o : Fin 3 → ℕ) (h : InbQ o) (hw : WordsQ o h)
    (ho : o = o3 s) (hss : 6 ≤ ss.val) (hrs : 6 ≤ rs.val) (hts : tOf ss = 0) (htr : tOf rs = 0) (hls : slotOf c ss = s) (hlr : slotOf d rs = s)
    (hsr : shareOf rs = fullShare) (l : List (GSem nD τ sig)) (k : PB F) (Kt : PUnit.{1} → sProp 𝕄) :
    iprop(records AQ AO κ ∗ slot AQ AO 0 c s (shareOf ss) ∗ (slotAny 0 d s ∗ reached ER (dmaCell d rs) 0) ∗ stok c d ss rs ∗ ow c (dmaCell d rs :: l)
        ∗ ((crd c ss ∗ ow c l) -∗ wpc c k Kt))
      ⊢ wpc c (sendQ o h hw d ss rs k) Kt := by
  subst ho
  rw [show slot AQ AO 0 c s (shareOf ss) = slQ c s (shareOf ss) (WQ AQ) from if_pos rfl, show slotAny (F := F) 0 d s = iprop(∃ f, slQ d s fullShare f) from if_pos rfl]
  unfold sendQ wpc slQ stok ow
  rw [← slotQ_set s h]
  iintro ⟨#HR, Hs, ⟨⟨%fd, Hd⟩, #Hrd⟩, ⟨Ht1, #Hr1, Ht2⟩, ⟨%W, HO⟩, HK⟩
  ihave #HI1 := (inv_dma AQ AO κ c ss hss) $$ HR
  ihave #HI2 := (inv_dma AQ AO κ d rs hrs) $$ HR
  iapply (Rounds.wp_send_pointsTo 𝒱₀ ER (Rd AQ AO) (c : Thread nD τ) none (c' := (d : Thread nD τ)) (src := slotQ (o3 s) h) (dst := slotQ (o3 s) h)
      (sS := .dma ss) (sem := .dma rs) (q := shareOf ss) (fs := WQ AQ) (κ₁ := κ (dmaCell c ss)) (κ₂ := κ (dmaCell d rs))
      (r₁ := 0) (r₂ := 0) (d₁ := true) (d₂ := true) (fd := fd)
      (by rw [duties_dma _ _ _ _ hss]; exact Finset.mem_singleton_self _) (by rw [duties_dma _ _ _ _ hrs]; exact Finset.mem_singleton_self _)
      () () NQ rfl (if_pos hts) (if_pos htr) (owe l) (congrArg (fun n => owe l + tallyAt (dmaCell d rs) () n) (if_pos htr)) (W := W)
      (by rw [payload_dma, hts, hls, slotQ_set]; exact BI.Entails.refl _)
      (by
        rw [payload_dma, htr, hlr, hsr, slotQ_set, pointsTo_congr (landQ s h fd (WQ AQ))]
        exact BI.Entails.refl _)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hrd
  iintro ⟨Hc, HO⟩
  iapply HK
  isplitl [Hc]
  · rw [crdQ c ss hts]; iexact Hc
  iexists W; iexact HO

theorem sendO_wp (κ : GSem nD τ sig → ℕ) (c d s : Dev nD) (ss rs : DmaSem sig) (o : Fin 3 → ℕ) (h : InbO o) (hw : WordsO o h)
    (ho : o = o3 s) (hss : 6 ≤ ss.val) (hrs : 6 ≤ rs.val) (hts : tOf ss = 1) (htr : tOf rs = 1) (hls : slotOf c ss = s) (hlr : slotOf d rs = s)
    (hsr : shareOf rs = fullShare) (l : List (GSem nD τ sig)) (k : PB F) (Kt : PUnit.{1} → sProp 𝕄) :
    iprop(records AQ AO κ ∗ slot AQ AO 1 c s (shareOf ss) ∗ (slotAny 1 d s ∗ reached ER (dmaCell d rs) 0) ∗ stok c d ss rs ∗ ow c (dmaCell d rs :: l)
        ∗ ((crd c ss ∗ ow c l) -∗ wpc c k Kt))
      ⊢ wpc c (sendO o h hw d ss rs k) Kt := by
  subst ho
  have hn : tOf ss ≠ 0 := by rw [hts]; decide
  have hn' : tOf rs ≠ 0 := by rw [htr]; decide
  rw [show slot AQ AO 1 c s (shareOf ss) = slO c s (shareOf ss) (WO AO) from if_neg (by decide),
    show slotAny (F := F) 1 d s = iprop(∃ f, slO d s fullShare f) from if_neg (by decide)]
  unfold sendO wpc slO stok ow
  rw [← slotO_set s h]
  iintro ⟨#HR, Hs, ⟨⟨%fd, Hd⟩, #Hrd⟩, ⟨Ht1, #Hr1, Ht2⟩, ⟨%W, HO⟩, HK⟩
  ihave #HI1 := (inv_dma AQ AO κ c ss hss) $$ HR
  ihave #HI2 := (inv_dma AQ AO κ d rs hrs) $$ HR
  iapply (Rounds.wp_send_pointsTo 𝒱₀ ER (Rd AQ AO) (c : Thread nD τ) none (c' := (d : Thread nD τ)) (src := slotO (o3 s) h) (dst := slotO (o3 s) h)
      (sS := .dma ss) (sem := .dma rs) (q := shareOf ss) (fs := WO AO) (κ₁ := κ (dmaCell c ss)) (κ₂ := κ (dmaCell d rs))
      (r₁ := 0) (r₂ := 0) (d₁ := true) (d₂ := true) (fd := fd)
      (by rw [duties_dma _ _ _ _ hss]; exact Finset.mem_singleton_self _) (by rw [duties_dma _ _ _ _ hrs]; exact Finset.mem_singleton_self _)
      () () NO rfl (if_neg hn) (if_neg hn') (owe l) (congrArg (fun n => owe l + tallyAt (dmaCell d rs) () n) (if_neg hn')) (W := W)
      (by rw [payload_dma, hts, hls, slotO_set]; exact BI.Entails.refl _)
      (by
        rw [payload_dma, htr, hlr, hsr, slotO_set, pointsTo_congr (landO s h fd (WO AO))]
        exact BI.Entails.refl _)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hrd
  iintro ⟨Hc, HO⟩
  iapply HK
  isplitl [Hc]
  · rw [crdO c ss hts]; iexact Hc
  iexists W; iexact HO

theorem waitQ_wp (κ : GSem nD τ sig → ℕ) (c s : Dev nD) (q : DmaSem sig) (o : Fin 3 → ℕ) (h : InbQ o) (hw : WordsQ o h)
    (ho : o = o3 s) (hq : 6 ≤ q.val) (ht : tOf q = 0) (l : List (GSem nD τ sig)) (hl : ∀ g ∈ l, g.1.2 = .tc ∧ lvOf (.dma q) < lvOf g.2)
    (k : PB F) (Kt : PUnit.{1} → sProp 𝕄) :
    iprop(records AQ AO κ ∗ levAts L lv ∗ crd c q ∗ atPos ER (dmaCell c q) 0 ∅ 0 ∗ ow c l
        ∗ ((slot AQ AO 0 c (slotOf c q) (shareOf q) ∗ semVal (dmaCell c q) 0 ∗ ow c l) -∗ wpc c k Kt))
      ⊢ wpc c (waitQ o h hw q k) Kt := by
  subst ho
  unfold waitQ wpc ow
  iintro ⟨#HR, #Hlev, Hc, Hat, ⟨%W, HO⟩, HK⟩
  ihave #HI := (inv_dma AQ AO κ c q hq) $$ HR
  iapply (Rounds.wp_wait_rest_token 𝒱₀ ER (Rd AQ AO) (c : Thread nD τ) none (κ := κ (dmaCell c q))
      (wpE_waitDma2_eq (src := slotQ (o3 s) h) (dst := slotQ (o3 s) h) 𝒱₀ (c : Thread nD τ) none Set.univ) (Set.mem_univ _) () (O := owe l) (W := W) (R := 0) (m := 0) (T := ∅)
      ((Nat.zero_add _).trans ((expect_dma AQ AO c q hq).trans (if_pos ht)).symm)) $$ [Hc HO Hat]
  · isplitr; · iexact HI
    isplitl [Hc]
    · iapply (crdQ' c s q ht h) $$ Hc
    isplitl [HO]; · iexact HO
    isplitr; · iapply (mayWait c (.dma q) l hl); iexact Hlev
    iexact Hat
  iintro ⟨HO, Hat, -, Hpay⟩
  ihave Hp := (Entails.of_eq (rest_dma AQ AO c q hq)) $$ Hpay
  iapply fupd_wp
  imod (close AQ AO (κ (dmaCell c q)) (dmaCell c q)) $$ [Hat] with Hz
  · isplitr; · iexact HI
    iexact Hat
  imodintro
  iapply HK
  rw [ht]
  isplitl [Hp]; · iexact Hp
  isplitl [Hz]; · iexact Hz
  iexists _; iexact HO

theorem waitO_wp (κ : GSem nD τ sig → ℕ) (c s : Dev nD) (q : DmaSem sig) (o : Fin 3 → ℕ) (h : InbO o) (hw : WordsO o h)
    (ho : o = o3 s) (hq : 6 ≤ q.val) (ht : tOf q = 1) (l : List (GSem nD τ sig)) (hl : ∀ g ∈ l, g.1.2 = .tc ∧ lvOf (.dma q) < lvOf g.2)
    (k : PB F) (Kt : PUnit.{1} → sProp 𝕄) :
    iprop(records AQ AO κ ∗ levAts L lv ∗ crd c q ∗ atPos ER (dmaCell c q) 0 ∅ 0 ∗ ow c l
        ∗ ((slot AQ AO 1 c (slotOf c q) (shareOf q) ∗ semVal (dmaCell c q) 0 ∗ ow c l) -∗ wpc c k Kt))
      ⊢ wpc c (waitO o h hw q k) Kt := by
  subst ho
  have hn : tOf q ≠ 0 := by rw [ht]; decide
  unfold waitO wpc ow
  iintro ⟨#HR, #Hlev, Hc, Hat, ⟨%W, HO⟩, HK⟩
  ihave #HI := (inv_dma AQ AO κ c q hq) $$ HR
  iapply (Rounds.wp_wait_rest_token 𝒱₀ ER (Rd AQ AO) (c : Thread nD τ) none (κ := κ (dmaCell c q))
      (wpE_waitDma2_eq (src := slotO (o3 s) h) (dst := slotO (o3 s) h) 𝒱₀ (c : Thread nD τ) none Set.univ) (Set.mem_univ _) () (O := owe l) (W := W) (R := 0) (m := 0) (T := ∅)
      ((Nat.zero_add _).trans ((expect_dma AQ AO c q hq).trans (if_neg hn)).symm)) $$ [Hc HO Hat]
  · isplitr; · iexact HI
    isplitl [Hc]
    · iapply (crdO' c s q ht h) $$ Hc
    isplitl [HO]; · iexact HO
    isplitr; · iapply (mayWait c (.dma q) l hl); iexact Hlev
    iexact Hat
  iintro ⟨HO, Hat, -, Hpay⟩
  ihave Hp := (Entails.of_eq (rest_dma AQ AO c q hq)) $$ Hpay
  iapply fupd_wp
  imod (close AQ AO (κ (dmaCell c q)) (dmaCell c q)) $$ [Hat] with Hz
  · isplitr; · iexact HI
    iexact Hat
  imodintro
  iapply HK
  rw [ht]
  isplitl [Hp]; · iexact Hp
  isplitl [Hz]; · iexact Hz
  iexists _; iexact HO

/-! ## The semaphores' roles -/

theorem six_ssR : ∀ t r, 6 ≤ (ssR t r).val := by decide
theorem six_rsR : ∀ t r, 6 ≤ (rsR t r).val := by decide
theorem six_ssL : ∀ t r, 6 ≤ (ssL t r).val := by decide
theorem six_rsL : ∀ t r, 6 ≤ (rsL t r).val := by decide
theorem tOf_ssR : ∀ t r, tOf (ssR t r) = t := by decide
theorem tOf_rsR : ∀ t r, tOf (rsR t r) = t := by decide
theorem tOf_ssL : ∀ t r, tOf (ssL t r) = t := by decide
theorem tOf_rsL : ∀ t r, tOf (rsL t r) = t := by decide
theorem slotOf_ssR : ∀ c t r, slotOf c (ssR t r) = back c r.val := by decide
theorem slotOf_rsR : ∀ c t r, slotOf c (rsR t r) = back c (1 + r.val) := by decide
theorem slotOf_ssL : ∀ c t r, slotOf c (ssL t r) = ahead c r.val := by decide
theorem slotOf_rsL : ∀ c t r, slotOf c (rsL t r) = ahead c (1 + r.val) := by decide
theorem slotOf_nxt : ∀ c t r, slotOf (nxt c) (rsR t r) = back c r.val := by decide
theorem slotOf_prv : ∀ c t r, slotOf (prv c) (rsL t r) = ahead c r.val := by decide
theorem shareOf_ssR (t : Fin 2) (r : Fin 4) : shareOf (ssR t r) = fullShare.left := if_pos (by revert t r; decide)
theorem shareOf_rsR (t : Fin 2) (r : Fin 4) : shareOf (rsR t r) = fullShare := by
  unfold shareOf; rw [if_neg (by revert t r; decide), if_pos (by revert t r; decide)]
theorem shareOf_rsL (t : Fin 2) (r : Fin 3) : shareOf (rsL t r) = fullShare := by
  unfold shareOf
  rw [if_neg (by revert t r; decide), if_neg (by revert t r; decide), if_neg (by revert t r; decide)]
/-- The share a left hop sends from: hop 0 sends the own slot, whose left half is with the right hop. -/
def shL (r : Fin 3) : PosShare TreeShare := if r = 0 then fullShare.right.left else fullShare.left
theorem shareOf_ssL (t : Fin 2) (r : Fin 3) : shareOf (ssL t r) = shL r := by
  unfold shareOf shL
  rw [if_neg (by revert t r; decide), if_neg (by revert t r; decide), if_pos (by revert t r; decide)]
  by_cases h : r = 0
  · rw [if_pos h, if_pos (by revert h; revert t r; decide)]
  · rw [if_neg h, if_neg (by revert h; revert t r; decide)]

/-- The printed offsets of the slots. -/
theorem eo1 (c : Dev nD) : k0_off1 c = o3 (back c 0) := by rw [k0_off1_eq]; revert c; decide
theorem eo2 (c : Dev nD) : k0_off2 c = o3 (back c 0) := by rw [k0_off2_eq]; revert c; decide
theorem eo3 (c : Dev nD) (r : Fin 4) : k0_off3 c (BitVec.ofNat 32 r.val) = o3 (back c r.val) := by rw [k0_off3_eq]; revert c r; decide
theorem eo4 (c : Dev nD) (r : Fin 4) : k0_off4 c (BitVec.ofNat 32 r.val) = o3 (back c r.val) := by rw [k0_off4_eq]; revert c r; decide
theorem eo5 (c : Dev nD) (r : Fin 3) : k0_off5 c (BitVec.ofNat 32 r.val) = o3 (ahead c r.val) := by rw [k0_off5_eq]; revert c r; decide
theorem eo6 (c : Dev nD) (r : Fin 3) : k0_off6 c (BitVec.ofNat 32 r.val) = o3 (ahead c r.val) := by rw [k0_off6_eq]; revert c r; decide
theorem eo8 (c : Dev nD) (r : Fin 4) : k0_off8 c (BitVec.ofNat 32 r.val) = o3 (back c (1 + r.val)) := by rw [k0_off8_eq]; revert c r; decide
theorem eo9 (c : Dev nD) (r : Fin 4) : k0_off9 c (BitVec.ofNat 32 r.val) = o3 (back c (1 + r.val)) := by rw [k0_off9_eq]; revert c r; decide
theorem eo10 (c : Dev nD) (r : Fin 3) : k0_off10 c (BitVec.ofNat 32 r.val) = o3 (ahead c (1 + r.val)) := by rw [k0_off10_eq]; revert c r; decide
theorem eo11 (c : Dev nD) (r : Fin 3) : k0_off11 c (BitVec.ofNat 32 r.val) = o3 (ahead c (1 + r.val)) := by rw [k0_off11_eq]; revert c r; decide
theorem eo12 (c : Dev nD) (r : Fin 3) : k0_off12 c (BitVec.ofNat 32 r.val) = o3 (ahead c (1 + r.val)) := by rw [k0_off12_eq]; revert c r; decide
theorem eo13 (c : Dev nD) (r : Fin 3) : k0_off13 c (BitVec.ofNat 32 r.val) = o3 (ahead c (1 + r.val)) := by rw [k0_off13_eq]; revert c r; decide
theorem eo15 (c : Dev nD) (r : Fin 4) : k0_off15 c (BitVec.ofNat 32 r.val) = o3 (back c (1 + r.val)) := by rw [k0_off15_eq]; revert c r; decide
theorem eo16 (c : Dev nD) (r : Fin 4) : k0_off16 c (BitVec.ofNat 32 r.val) = o3 (back c (1 + r.val)) := by rw [k0_off16_eq]; revert c r; decide
theorem eo7 (c : Dev nD) (b : Fin 2) (h : Fin 8) :
    k0_off7 c (BitVec.ofNat 32 (64 * b.val)) (BitVec.ofNat 32 h.val) = okvS (back c 0) b h := by rw [k0_off7_eq]; revert c b h; decide +kernel
theorem eo14 (c : Dev nD) (r : Fin 3) (b : Fin 2) (h : Fin 8) :
    k0_off14 c (BitVec.ofNat 32 (64 * b.val)) (BitVec.ofNat 32 r.val) (BitVec.ofNat 32 h.val) = okvS (ahead c (1 + r.val)) b h := by
  rw [k0_off14_eq]; revert c r b h; decide +kernel
theorem eo17 (c : Dev nD) (r : Fin 4) (b : Fin 2) (h : Fin 8) :
    k0_off17 c (BitVec.ofNat 32 (64 * b.val)) (BitVec.ofNat 32 r.val) (BitVec.ofNat 32 h.val) = okvS (back c (1 + r.val)) b h := by
  rw [k0_off17_eq]; revert c r b h; decide +kernel

/-! ## The hops -/

section Hop
variable (κ : GSem nD τ sig → ℕ) (c : Dev nD) (k : PB F) (l : List (GSem nD τ sig))

theorem sendR_wp (Kt : PUnit.{1} → sProp 𝕄) (r : Fin 4) (d₀ d₁ : Dev nD) (h₀ : d₀ = nxt c) (h₁ : d₁ = nxt c) :
    iprop(records AQ AO κ ∗ (slot AQ AO 0 c (back c r.val) fullShare.left ∗ slot AQ AO 1 c (back c r.val) fullShare.left)
        ∗ (landR c r 0 ∗ landR c r 1) ∗ (stok c (nxt c) (ssR 0 r) (rsR 0 r) ∗ stok c (nxt c) (ssR 1 r) (rsR 1 r))
        ∗ ow c (dmaCell (nxt c) (rsR 0 r) :: dmaCell (nxt c) (rsR 1 r) :: l)
        ∗ (((crd c (ssR 0 r) ∗ crd c (ssR 1 r)) ∗ ow c l) -∗ wpc c k Kt))
      ⊢ wpc c (sendR c r d₀ d₁ k) Kt := by
  subst h₀ h₁
  unfold sendR landR
  iintro ⟨#HR, ⟨Hs0, Hs1⟩, ⟨Hl0, Hl1⟩, ⟨Ht0, Ht1⟩, HO, HK⟩
  iapply (sendQ_wp AQ AO κ c (nxt c) (back c r.val) (ssR 0 r) (rsR 0 r) _ _ _ (eo3 c r) (six_ssR 0 r) (six_rsR 0 r) (tOf_ssR 0 r) (tOf_rsR 0 r)
    (slotOf_ssR c 0 r) (slotOf_nxt c 0 r) (shareOf_rsR 0 r) (dmaCell (nxt c) (rsR 1 r) :: l))
  isplitr; · iexact HR
  isplitl [Hs0]; · rw [shareOf_ssR]; iexact Hs0
  isplitl [Hl0]; · iexact Hl0
  isplitl [Ht0]; · iexact Ht0
  isplitl [HO]; · iexact HO
  iintro ⟨Hc0, HO⟩
  iapply (sendO_wp AQ AO κ c (nxt c) (back c r.val) (ssR 1 r) (rsR 1 r) _ _ _ (eo4 c r) (six_ssR 1 r) (six_rsR 1 r) (tOf_ssR 1 r) (tOf_rsR 1 r)
    (slotOf_ssR c 1 r) (slotOf_nxt c 1 r) (shareOf_rsR 1 r) l)
  isplitr; · iexact HR
  isplitl [Hs1]; · rw [shareOf_ssR]; iexact Hs1
  isplitl [Hl1]; · iexact Hl1
  isplitl [Ht1]; · iexact Ht1
  isplitl [HO]; · iexact HO
  iintro ⟨Hc1, HO⟩
  iapply HK
  isplitl [Hc0 Hc1]
  · isplitl [Hc0] <;> iassumption
  iexact HO

theorem sendL_wp (Kt : PUnit.{1} → sProp 𝕄) (r : Fin 3) (d₀ d₁ : Dev nD) (h₀ : d₀ = prv c) (h₁ : d₁ = prv c) :
    iprop(records AQ AO κ ∗ (slot AQ AO 0 c (ahead c r.val) (shL r) ∗ slot AQ AO 1 c (ahead c r.val) (shL r))
        ∗ (landL c r 0 ∗ landL c r 1) ∗ (stok c (prv c) (ssL 0 r) (rsL 0 r) ∗ stok c (prv c) (ssL 1 r) (rsL 1 r))
        ∗ ow c (dmaCell (prv c) (rsL 0 r) :: dmaCell (prv c) (rsL 1 r) :: l)
        ∗ (((crd c (ssL 0 r) ∗ crd c (ssL 1 r)) ∗ ow c l) -∗ wpc c k Kt))
      ⊢ wpc c (sendL c r d₀ d₁ k) Kt := by
  subst h₀ h₁
  unfold sendL landL
  iintro ⟨#HR, ⟨Hs0, Hs1⟩, ⟨Hl0, Hl1⟩, ⟨Ht0, Ht1⟩, HO, HK⟩
  iapply (sendQ_wp AQ AO κ c (prv c) (ahead c r.val) (ssL 0 r) (rsL 0 r) _ _ _ (eo5 c r) (six_ssL 0 r) (six_rsL 0 r) (tOf_ssL 0 r) (tOf_rsL 0 r)
    (slotOf_ssL c 0 r) (slotOf_prv c 0 r) (shareOf_rsL 0 r) (dmaCell (prv c) (rsL 1 r) :: l))
  isplitr; · iexact HR
  isplitl [Hs0]; · rw [shareOf_ssL]; iexact Hs0
  isplitl [Hl0]; · iexact Hl0
  isplitl [Ht0]; · iexact Ht0
  isplitl [HO]; · iexact HO
  iintro ⟨Hc0, HO⟩
  iapply (sendO_wp AQ AO κ c (prv c) (ahead c r.val) (ssL 1 r) (rsL 1 r) _ _ _ (eo6 c r) (six_ssL 1 r) (six_rsL 1 r) (tOf_ssL 1 r) (tOf_rsL 1 r)
    (slotOf_ssL c 1 r) (slotOf_prv c 1 r) (shareOf_rsL 1 r) l)
  isplitr; · iexact HR
  isplitl [Hs1]; · rw [shareOf_ssL]; iexact Hs1
  isplitl [Hl1]; · iexact Hl1
  isplitl [Ht1]; · iexact Ht1
  isplitl [HO]; · iexact HO
  iintro ⟨Hc1, HO⟩
  iapply HK
  isplitl [Hc0 Hc1]
  · isplitl [Hc0] <;> iassumption
  iexact HO

/-- Two cells' positions, and their counters once closed. -/
abbrev at2 (q₀ q₁ : DmaSem sig) : sProp 𝕄 := iprop(atPos ER (dmaCell c q₀) 0 ∅ 0 ∗ atPos ER (dmaCell c q₁) 0 ∅ 0)
abbrev zero2 (q₀ q₁ : DmaSem sig) : sProp 𝕄 := iprop(semVal (dmaCell c q₀) 0 ∗ semVal (dmaCell c q₁) 0)
abbrev slot2 (s : Dev nD) (q : PosShare TreeShare) : sProp 𝕄 := iprop(slot AQ AO 0 c s q ∗ slot AQ AO 1 c s q)

/-- A wait for a transfer of either array, then the other. -/
theorem wait2_wp (Kt : PUnit.{1} → sProp 𝕄) (s₀ s₁ s : Dev nD) (q : PosShare TreeShare) (q₀ q₁ : DmaSem sig) (o : Fin 3 → ℕ) (h : InbQ o) (hw : WordsQ o h)
    (o' : Fin 3 → ℕ) (h' : InbO o') (hw' : WordsO o' h')
    (ho : o = o3 s₀) (ho' : o' = o3 s₁) (h6 : 6 ≤ q₀.val) (h6' : 6 ≤ q₁.val) (ht : tOf q₀ = 0) (ht' : tOf q₁ = 1)
    (hs : slotOf c q₀ = s) (hs' : slotOf c q₁ = s) (hq : shareOf q₀ = q) (hq' : shareOf q₁ = q)
    (hl : ∀ g ∈ l, g.1.2 = .tc ∧ lvOf (.dma q₀) < lvOf g.2) (hl' : ∀ g ∈ l, g.1.2 = .tc ∧ lvOf (.dma q₁) < lvOf g.2) :
    iprop(records AQ AO κ ∗ levAts L lv ∗ (crd c q₀ ∗ crd c q₁) ∗ at2 c q₀ q₁ ∗ ow c l
        ∗ ((slot2 AQ AO c s q ∗ zero2 c q₀ q₁ ∗ ow c l) -∗ wpc c k Kt))
      ⊢ wpc c (waitQ o h hw q₀ (waitO o' h' hw' q₁ k)) Kt := by
  iintro ⟨#HR, #Hlev, ⟨Hc0, Hc1⟩, ⟨Ha0, Ha1⟩, HO, HK⟩
  iapply (waitQ_wp AQ AO κ c s₀ q₀ o h hw ho h6 ht l hl)
  isplitr; · iexact HR
  isplitr; · iexact Hlev
  isplitl [Hc0]; · iexact Hc0
  isplitl [Ha0]; · iexact Ha0
  isplitl [HO]; · iexact HO
  iintro ⟨Hs0, Hz0, HO⟩
  iapply (waitO_wp AQ AO κ c s₁ q₁ o' h' hw' ho' h6' ht' l hl')
  isplitr; · iexact HR
  isplitr; · iexact Hlev
  isplitl [Hc1]; · iexact Hc1
  isplitl [Ha1]; · iexact Ha1
  isplitl [HO]; · iexact HO
  iintro ⟨Hs1, Hz1, HO⟩
  rw [hs, hs', hq, hq']
  iapply HK
  isplitl [Hs0 Hs1]
  · isplitl [Hs0] <;> iassumption
  isplitl [Hz0 Hz1]
  · isplitl [Hz0] <;> iassumption
  iexact HO

theorem recvR_wp (Kt : PUnit.{1} → sProp 𝕄) (r : Fin 4) (hl : ∀ t, ∀ g ∈ l, g.1.2 = .tc ∧ lvOf (.dma (rsR t r)) < lvOf g.2) :
    iprop(records AQ AO κ ∗ levAts L lv ∗ (crd c (rsR 0 r) ∗ crd c (rsR 1 r)) ∗ at2 c (rsR 0 r) (rsR 1 r) ∗ ow c l
        ∗ ((slot2 AQ AO c (back c (1 + r.val)) fullShare ∗ zero2 c (rsR 0 r) (rsR 1 r) ∗ ow c l) -∗ wpc c k Kt))
      ⊢ wpc c (recvR c r k) Kt :=
  wait2_wp AQ AO κ c k l Kt _ _ _ _ _ _ _ _ _ _ _ _ (eo8 c r) (eo9 c r) (six_rsR 0 r) (six_rsR 1 r) (tOf_rsR 0 r) (tOf_rsR 1 r)
    (slotOf_rsR c 0 r) (slotOf_rsR c 1 r) (shareOf_rsR 0 r) (shareOf_rsR 1 r) (hl 0) (hl 1)
theorem recvL_wp (Kt : PUnit.{1} → sProp 𝕄) (r : Fin 3) (hl : ∀ t, ∀ g ∈ l, g.1.2 = .tc ∧ lvOf (.dma (rsL t r)) < lvOf g.2) :
    iprop(records AQ AO κ ∗ levAts L lv ∗ (crd c (rsL 0 r) ∗ crd c (rsL 1 r)) ∗ at2 c (rsL 0 r) (rsL 1 r) ∗ ow c l
        ∗ ((slot2 AQ AO c (ahead c (1 + r.val)) fullShare ∗ zero2 c (rsL 0 r) (rsL 1 r) ∗ ow c l) -∗ wpc c k Kt))
      ⊢ wpc c (recvL c r k) Kt :=
  wait2_wp AQ AO κ c k l Kt _ _ _ _ _ _ _ _ _ _ _ _ (eo10 c r) (eo11 c r) (six_rsL 0 r) (six_rsL 1 r) (tOf_rsL 0 r) (tOf_rsL 1 r)
    (slotOf_rsL c 0 r) (slotOf_rsL c 1 r) (shareOf_rsL 0 r) (shareOf_rsL 1 r) (hl 0) (hl 1)
theorem doneR_wp (Kt : PUnit.{1} → sProp 𝕄) (r : Fin 4) :
    iprop(records AQ AO κ ∗ levAts L lv ∗ (crd c (ssR 0 r) ∗ crd c (ssR 1 r)) ∗ at2 c (ssR 0 r) (ssR 1 r) ∗ ow c []
        ∗ ((slot2 AQ AO c (back c r.val) fullShare.left ∗ zero2 c (ssR 0 r) (ssR 1 r) ∗ ow c []) -∗ wpc c k Kt))
      ⊢ wpc c (doneR c r k) Kt :=
  wait2_wp AQ AO κ c k [] Kt _ _ _ _ _ _ _ _ _ _ _ _ (eo3 c r) (eo4 c r) (six_ssR 0 r) (six_ssR 1 r) (tOf_ssR 0 r) (tOf_ssR 1 r)
    (slotOf_ssR c 0 r) (slotOf_ssR c 1 r) (shareOf_ssR 0 r) (shareOf_ssR 1 r) (fun g h => absurd h List.not_mem_nil) (fun g h => absurd h List.not_mem_nil)
theorem doneL_wp (Kt : PUnit.{1} → sProp 𝕄) (r : Fin 3) :
    iprop(records AQ AO κ ∗ levAts L lv ∗ (crd c (ssL 0 r) ∗ crd c (ssL 1 r)) ∗ at2 c (ssL 0 r) (ssL 1 r) ∗ ow c []
        ∗ ((slot2 AQ AO c (ahead c r.val) (shL r) ∗ zero2 c (ssL 0 r) (ssL 1 r) ∗ ow c []) -∗ wpc c k Kt))
      ⊢ wpc c (doneL c r k) Kt :=
  wait2_wp AQ AO κ c k [] Kt _ _ _ _ _ _ _ _ _ _ _ _ (eo5 c r) (eo6 c r) (six_ssL 0 r) (six_ssL 1 r) (tOf_ssL 0 r) (tOf_ssL 1 r)
    (slotOf_ssL c 0 r) (slotOf_ssL c 1 r) (shareOf_ssL 0 r) (shareOf_ssL 1 r) (fun g h => absurd h List.not_mem_nil) (fun g h => absurd h List.not_mem_nil)

end Hop

/-! ## The blocks of the body -/

section Blocks
variable (c : Dev nD) (q : PosShare TreeShare) (x : (cc0_stg0_0 : Ref sig .tc).ty.Contents (Elt F)) (kt : (cc0_stg3_0 : Ref sig .tc).ty.Contents (Elt F))
    (vt : (cc0_stg4_0 : Ref sig .tc).ty.Contents (Elt F)) (o : (cc0_stg5_0 : Ref sig .tc).ty.Contents (Elt F)) (k : PB F)

theorem block_wp (Kt : PUnit.{1} → sProp 𝕄) (s : Dev nD) (o6 : Fin 3 → ℕ) (h6 : InbQ o6) (o7 : Fin 3 → ℕ) (h7 : InbO o7)
    (okv : Fin 2 → Fin 8 → Fin 2 → ℕ) (hkv : ∀ b h, InbKV (okv b h)) (e6 : o6 = o3 s) (e7 : o7 = o3 s) (ho : ∀ b h, okv b h = okvS s b h) :
    iprop(slot2 AQ AO c s q ∗ work c x kt vt o ∗ ((slot2 AQ AO c s q ∗ work c x kt vt (blockOut AQ AO x kt vt s o)) -∗ wpc c k Kt))
      ⊢ wpc c (blockK biasVal o6 h6 o7 h7 okv hkv k) Kt := by
  iintro ⟨⟨H0, H1⟩, Hw, HK⟩
  iapply (blockK_wp AQ AO c s q q o6 h6 o7 h7 okv hkv e6 e7 ho x kt vt o k Kt)
  isplitl [H0 H1 Hw]
  · isplitl [H0]; · iexact H0
    isplitl [H1] <;> iassumption
  iintro ⟨H0, H1, Hw⟩
  iapply HK
  isplitl [H0 H1]
  · isplitl [H0] <;> iassumption
  iexact Hw

theorem blockMy_wp (Kt : PUnit.{1} → sProp 𝕄) :
    iprop(slot2 AQ AO c (back c 0) q ∗ work c x kt vt o ∗ ((slot2 AQ AO c (back c 0) q ∗ work c x kt vt (blockOut AQ AO x kt vt (back c 0) o)) -∗ wpc c k Kt))
      ⊢ wpc c (blockMy c k) Kt :=
  block_wp AQ AO c q x kt vt o k Kt (back c 0) _ _ _ _ _ _ (eo1 c) (eo2 c) (eo7 c)
theorem blockL_wp (Kt : PUnit.{1} → sProp 𝕄) (r : Fin 3) :
    iprop(slot2 AQ AO c (ahead c (1 + r.val)) q ∗ work c x kt vt o
        ∗ ((slot2 AQ AO c (ahead c (1 + r.val)) q ∗ work c x kt vt (blockOut AQ AO x kt vt (ahead c (1 + r.val)) o)) -∗ wpc c k Kt))
      ⊢ wpc c (blockL c r k) Kt :=
  block_wp AQ AO c q x kt vt o k Kt (ahead c (1 + r.val)) _ _ _ _ _ _ (eo12 c r) (eo13 c r) (eo14 c r)
theorem blockR_wp (Kt : PUnit.{1} → sProp 𝕄) (r : Fin 4) :
    iprop(slot2 AQ AO c (back c (1 + r.val)) q ∗ work c x kt vt o
        ∗ ((slot2 AQ AO c (back c (1 + r.val)) q ∗ work c x kt vt (blockOut AQ AO x kt vt (back c (1 + r.val)) o)) -∗ wpc c k Kt))
      ⊢ wpc c (blockR c r k) Kt :=
  block_wp AQ AO c q x kt vt o k Kt (back c (1 + r.val)) _ _ _ _ _ _ (eo15 c r) (eo16 c r) (eo17 c r)

end Blocks

end Cert.KRun

end
-- ==== Proof.Run.lean ====
/-
# One device's run of the body

The scratch arrays are cut into their eight slots; seven of them go to the neighbours with the two barrier signals,
come back filled by the receives, and are put together again at the end.
-/
module

public import proofs.«01_k».proof.Proof.Hops

@[expose] public section

noncomputable section

namespace Cert.KRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Cutting the arrays into slots -/

theorem mem_rectQ (s : Dev nD) (i : S8x768x512.Idx) : i ∈ (rectQ (o3 s) (o3_inbQ s)).set ↔ i 0 = s := by
  rw [← Rect.map_emb_univ]
  refine ⟨fun h => ?_, fun h => ?_⟩
  · obtain ⟨x, -, rfl⟩ := Finset.mem_map.mp h
    exact (inSlotQ_emb s (o3_inbQ s) x).1
  · refine Finset.mem_map.mpr ⟨inSlotQ i, Finset.mem_univ _, funext fun a => Fin.ext ?_⟩
    fin_cases a
    · show s.val + 1 * 0 = (i 0).val
      rw [h]; omega
    · show 0 + 1 * (i 1).val = (i 1).val
      omega
    · show 0 + 1 * (i 2).val = (i 2).val
      omega
theorem mem_rectO (s : Dev nD) (i : S8x512x768.Idx) : i ∈ (rectO (o3 s) (o3_inbO s)).set ↔ i 0 = s := by
  rw [← Rect.map_emb_univ]
  refine ⟨fun h => ?_, fun h => ?_⟩
  · obtain ⟨x, -, rfl⟩ := Finset.mem_map.mp h
    exact (inSlotO_emb s (o3_inbO s) x).1
  · refine Finset.mem_map.mpr ⟨inSlotO i, Finset.mem_univ _, funext fun a => Fin.ext ?_⟩
    fin_cases a
    · show s.val + 1 * 0 = (i 0).val
      rw [h]; omega
    · show 0 + 1 * (i 1).val = (i 1).val
      omega
    · show 0 + 1 * (i 2).val = (i 2).val
      omega

theorem cutQ (c : Dev nD) (f : (cc0_scratch0 : Ref sig .tc).ty.Contents (Elt F)) :
    (pt c cc0_scratch0 f : sProp 𝕄) = bigSep Finset.univ fun s : Dev nD => slQ c s fullShare f := by
  have hU : (Finset.univ : Finset (Idx ((c : Thread nD τ).loc cc0_scratch0)))
      = (Finset.univ : Finset (Dev nD)).biUnion fun s => (rectQ (o3 s) (o3_inbQ s)).set :=
    (Finset.eq_univ_iff_forall.mpr fun i => Finset.mem_biUnion.mpr ⟨i 0, Finset.mem_univ _, (mem_rectQ (i 0) i).mpr rfl⟩).symm
  unfold pt slQ
  rw [hU]
  exact pointsTo_biUnion Finset.univ _ fun s _ s' _ hne => Finset.disjoint_left.mpr fun i hi hi' =>
    hne (((mem_rectQ s i).mp hi).symm.trans ((mem_rectQ s' i).mp hi'))
theorem cutO (c : Dev nD) (f : (cc0_scratch1 : Ref sig .tc).ty.Contents (Elt F)) :
    (pt c cc0_scratch1 f : sProp 𝕄) = bigSep Finset.univ fun s : Dev nD => slO c s fullShare f := by
  have hU : (Finset.univ : Finset (Idx ((c : Thread nD τ).loc cc0_scratch1)))
      = (Finset.univ : Finset (Dev nD)).biUnion fun s => (rectO (o3 s) (o3_inbO s)).set :=
    (Finset.eq_univ_iff_forall.mpr fun i => Finset.mem_biUnion.mpr ⟨i 0, Finset.mem_univ _, (mem_rectO (i 0) i).mpr rfl⟩).symm
  unfold pt slO
  rw [hU]
  exact pointsTo_biUnion Finset.univ _ fun s _ s' _ hne => Finset.disjoint_left.mpr fun i hi hi' =>
    hne (((mem_rectO s i).mp hi).symm.trans ((mem_rectO s' i).mp hi'))

/-- The eight slots in the order the run meets them: own, behind, ahead. -/
def slotsOf (c : Dev nD) : List (Dev nD) := [back c 0, back c 1, back c 2, back c 3, back c 4, ahead c 1, ahead c 2, ahead c 3]
theorem slotsOf_univ : ∀ c, Finset.univ = (slotsOf c).toFinset := by decide
theorem slotsOf_nodup : ∀ c, (slotsOf c).Nodup := by decide

/-- A proposition for each of the eight slots. -/
abbrev eight (c : Dev nD) (Φ : Dev nD → sProp 𝕄) : sProp 𝕄 :=
  iprop(Φ (back c 0) ∗ Φ (back c 1) ∗ Φ (back c 2) ∗ Φ (back c 3) ∗ Φ (back c 4) ∗ Φ (ahead c 1) ∗ Φ (ahead c 2) ∗ Φ (ahead c 3))

theorem eight_eq (c : Dev nD) (Φ : Dev nD → sProp 𝕄) : bigSep Finset.univ Φ = eight c Φ :=
  bigSep_univ_eq_bigSepL (slotsOf c) (slotsOf_univ c) (slotsOf_nodup c) Φ

variable (AQ : Dev nD → Vec F S768x512 .bf16) (AO : Dev nD → Vec F S512x768 .bf16)

theorem cutQ_any (c : Dev nD) : iprop(∃ f, pt c cc0_scratch0 f) ⊢ (eight c (fun s => slotAny 0 c s) : sProp 𝕄) := by
  iintro ⟨%f, H⟩
  iapply (Entails.of_eq (eight_eq c (fun s => slotAny (F := F) 0 c s)))
  have h₁ : ∀ s : Dev nD, (slQ c s fullShare f : sProp 𝕄) ⊢ slotAny 0 c s := fun s => by
    rw [show slotAny (F := F) 0 c s = iprop(∃ f, slQ c s fullShare f) from if_pos rfl]
    iintro H; iexists f; iexact H
  have h : (bigSep Finset.univ fun s : Dev nD => (slQ c s fullShare f : sProp 𝕄)) ⊢ bigSep Finset.univ fun s : Dev nD => slotAny 0 c s :=
    bigSep_mono fun s _ => h₁ s
  iapply h
  iapply (Entails.of_eq (cutQ c f)) $$ H
theorem cutO_any (c : Dev nD) : iprop(∃ f, pt c cc0_scratch1 f) ⊢ (eight c (fun s => slotAny 1 c s) : sProp 𝕄) := by
  iintro ⟨%f, H⟩
  iapply (Entails.of_eq (eight_eq c (fun s => slotAny (F := F) 1 c s)))
  have h₁ : ∀ s : Dev nD, (slO c s fullShare f : sProp 𝕄) ⊢ slotAny 1 c s := fun s => by
    rw [show slotAny (F := F) 1 c s = iprop(∃ f, slO c s fullShare f) from if_neg (by decide)]
    iintro H; iexists f; iexact H
  have h : (bigSep Finset.univ fun s : Dev nD => (slO c s fullShare f : sProp 𝕄)) ⊢ bigSep Finset.univ fun s : Dev nD => slotAny 1 c s :=
    bigSep_mono fun s _ => h₁ s
  iapply h
  iapply (Entails.of_eq (cutO c f)) $$ H

/-- The filled slots put together. -/
theorem whole2 (c : Dev nD) : (eight c (fun s => slot2 AQ AO c s fullShare) : sProp 𝕄)
    ⊢ iprop((∃ f, pt c cc0_scratch0 f) ∗ ∃ f, pt c cc0_scratch1 f) := by
  have e : (bigSep Finset.univ fun s : Dev nD => slot2 AQ AO c s fullShare)
      = iprop((bigSep Finset.univ fun s : Dev nD => slot AQ AO 0 c s fullShare) ∗ bigSep Finset.univ fun s : Dev nD => slot AQ AO 1 c s fullShare) :=
    bigSep_sep _ _ _
  iintro H
  ihave H := (Entails.of_eq (eight_eq c (fun s => slot2 AQ AO c s fullShare)).symm) $$ H
  ihave H := (Entails.of_eq e) $$ H
  icases H with ⟨H0, H1⟩
  isplitl [H0]
  · iexists (WQ AQ)
    iapply (Entails.of_eq (cutQ c (WQ AQ)).symm)
    iexact H0
  · iexists (WO AO)
    iapply (Entails.of_eq (cutO c (WO AO)).symm)
    iexact H1

/-- Half the share and the other half. -/
theorem slot_halves (t : Fin 2) (c s : Dev nD) (q : PosShare TreeShare) :
    slot AQ AO t c s q ⊣⊢ iprop(slot AQ AO t c s q.left ∗ slot AQ AO t c s q.right) := by
  unfold slot slQ slO
  split
  · exact pointsTo_share (PosShare.mem_left_op_right q)
  · exact pointsTo_share (PosShare.mem_left_op_right q)
theorem halve (c s : Dev nD) (q : PosShare TreeShare) :
    slot2 AQ AO c s q ⊢ iprop(slot2 AQ AO c s q.left ∗ slot2 AQ AO c s q.right) := by
  iintro ⟨H0, H1⟩
  ihave H0 := (slot_halves AQ AO 0 c s q).1 $$ H0
  ihave H1 := (slot_halves AQ AO 1 c s q).1 $$ H1
  icases H0 with ⟨H0, H0'⟩
  icases H1 with ⟨H1, H1'⟩
  isplitl [H0 H1]
  · isplitl [H0] <;> iassumption
  · isplitl [H0'] <;> iassumption
theorem rejoin (c s : Dev nD) (q : PosShare TreeShare) :
    iprop(slot2 AQ AO c s q.left ∗ slot2 AQ AO c s q.right) ⊢ slot2 AQ AO c s q := by
  iintro ⟨⟨H0, H1⟩, H0', H1'⟩
  isplitl [H0 H0']
  · iapply (slot_halves AQ AO 0 c s q).2
    isplitl [H0] <;> iassumption
  · iapply (slot_halves AQ AO 1 c s q).2
    isplitl [H1] <;> iassumption

/-! ## What a device signals its neighbours with -/

theorem back_prv : ∀ c (r : Fin 4), back (prv c) r.val = back c (1 + r.val) := by decide
theorem ahead_nxt : ∀ c (r : Fin 3), ahead (nxt c) r.val = ahead c (1 + r.val) := by decide
theorem back_zero : ∀ c, back c 0 = c := by decide
theorem ahead_zero : ∀ c, ahead c 0 = back c 0 := by decide

theorem landR_prv (c : Dev nD) (r : Fin 4) (t : Fin 2) :
    (landR (prv c) r t : sProp 𝕄) = iprop(slotAny t c (back c (1 + r.val)) ∗ reached ER (dmaCell c (rsR t r)) 0) := by
  unfold landR; rw [nxt_prv, back_prv]
theorem landL_nxt (c : Dev nD) (r : Fin 3) (t : Fin 2) :
    (landL (nxt c) r t : sProp 𝕄) = iprop(slotAny t c (ahead c (1 + r.val)) ∗ reached ER (dmaCell c (rsL t r)) 0) := by
  unfold landL; rw [prv_nxt, ahead_nxt]

/-! ## What a device holds for one hop -/

def hopR (c : Dev nD) (r : Fin 4) : sProp 𝕄 :=
  iprop((stok c (nxt c) (ssR 0 r) (rsR 0 r) ∗ stok c (nxt c) (ssR 1 r) (rsR 1 r)) ∗ at2 c (ssR 0 r) (ssR 1 r) ∗ at2 c (rsR 0 r) (rsR 1 r)
    ∗ (crd c (rsR 0 r) ∗ crd c (rsR 1 r)) ∗ reached ER (dmaCell c (rsR 0 r)) 0 ∗ reached ER (dmaCell c (rsR 1 r)) 0)
def hopL (c : Dev nD) (r : Fin 3) : sProp 𝕄 :=
  iprop((stok c (prv c) (ssL 0 r) (rsL 0 r) ∗ stok c (prv c) (ssL 1 r) (rsL 1 r)) ∗ at2 c (ssL 0 r) (ssL 1 r) ∗ at2 c (rsL 0 r) (rsL 1 r)
    ∗ (crd c (rsL 0 r) ∗ crd c (rsL 1 r)) ∗ reached ER (dmaCell c (rsL 0 r)) 0 ∗ reached ER (dmaCell c (rsL 1 r)) 0)
def zeroR (c : Dev nD) (r : Fin 4) : sProp 𝕄 := iprop(zero2 c (ssR 0 r) (ssR 1 r) ∗ zero2 c (rsR 0 r) (rsR 1 r))
def zeroL (c : Dev nD) (r : Fin 3) : sProp 𝕄 := iprop(zero2 c (ssL 0 r) (ssL 1 r) ∗ zero2 c (rsL 0 r) (rsL 1 r))

/-- What it holds for the barrier. -/
def barHold (c : Dev nD) : sProp 𝕄 :=
  iprop(atPos ER (barCell c) 0 ∅ 0 ∗ cred (tallyAt (barCell c) () 2) ∗ dutyTok ER (barCell (prv c)) 0 true ∗ dutyTok ER (barCell (nxt c)) 0 false)

/-! ## The barrier -/

theorem dv1_eq (c : Dev nD) : dv1 c = prv c := Fin.ext ((k0_dev1_eq c).trans (by revert c; decide))
theorem dv2_eq (c : Dev nD) : dv2 c = nxt c := Fin.ext ((k0_dev2_eq c).trans (by revert c; decide))

/-- The levels of the owed cells, in order. -/
abbrev lvs : List ℕ := [1, 1, 2, 2, 2, 2, 3, 3, 3, 3, 4, 4, 4, 4, 5, 5]
theorem owList_lvs (c : Dev nD) : (owList c).map (fun g => lvOf g.2) = lvs := rfl
theorem owList_tc (c : Dev nD) : ∀ g ∈ owList c, g.1.2 = .tc := by
  intro g hg
  simp only [owList, List.mem_cons, List.not_mem_nil, or_false] at hg
  rcases hg with rfl | rfl | rfl | rfl | rfl | rfl | rfl | rfl | rfl | rfl | rfl | rfl | rfl | rfl | rfl | rfl <;> rfl
/-- What is still owed after `n` entries lies above a cell's level. -/
theorem above (c : Dev nD) (n : ℕ) (sm : SemLoc sig) (h : ∀ v ∈ lvs.drop n, lvOf sm < v) :
    ∀ g ∈ (owList c).drop n, g.1.2 = .tc ∧ lvOf sm < lvOf g.2 := fun g hg =>
  ⟨owList_tc c g (List.mem_of_mem_drop hg), h _ (by
    rw [← owList_lvs c, ← List.map_drop]
    exact List.mem_map_of_mem hg)⟩
theorem bar_wait (c : Dev nD) : ∀ g ∈ (owList c).drop 2, g.1.2 = .tc ∧ lvOf (.reg barS) < lvOf g.2 := above c 2 _ (by decide)

section Steps
variable (κ : GSem nD τ sig → ℕ) (c : Dev nD) (k : PB F)

/-- Both signals and the wait: the device's slots out, its neighbours' in. -/
theorem barrier_wp (Kt : PUnit.{1} → sProp 𝕄) :
    iprop(records AQ AO κ ∗ levAts L lv ∗ barHold c ∗ landsR (prv c) ∗ landsL (nxt c) ∗ ow c (owList c)
        ∗ ((landsR c ∗ landsL c ∗ semVal (barCell c) 0 ∗ ow c ((owList c).drop 2)) -∗ wpc c k Kt))
      ⊢ wpc c (.op (.semSignal (dv1 c, .tc) barS (1#32 : BitVec 32).toInt) fun _ =>
          .op (.semSignal (dv2 c, .tc) barS (1#32 : BitVec 32).toInt) fun _ => .op (.semWait barS (2#32 : BitVec 32).toInt) fun _ => k) Kt := by
  rw [dv1_eq, dv2_eq]
  unfold wpc barHold ow
  iintro ⟨#HR, #Hlev, ⟨Hat, Hc, Ht1, Ht2⟩, HlR, HlL, ⟨%W, HO⟩, HK⟩
  ihave #HI := (inv_bar AQ AO κ c) $$ HR
  ihave #HI1 := (inv_bar AQ AO κ (prv c)) $$ HR
  ihave #HI2 := (inv_bar AQ AO κ (nxt c)) $$ HR
  ihave #Hr1 := (reached_bar AQ AO κ (prv c)) $$ HR
  ihave #Hr2 := (reached_bar AQ AO κ (nxt c)) $$ HR
  iapply (Rounds.wp_signal 𝒱₀ ER (Rd AQ AO) (c : Thread nD τ) none (dst := (prv c : Thread nD τ)) (sem := barS) (r := 0) (d := true) (κ := κ (barCell (prv c)))
      (by rw [duties_bar]; exact Finset.mem_univ _) rfl () (owe ((owList c).drop 1)) rfl) $$ [HO Ht1 HlR]
  · isplitr; · iexact HI1
    isplitl [HO]; · iexact HO
    isplitl [Ht1]; · iexact Ht1
    isplitl [HlR]; · rw [payload_bar_true]; iexact HlR
    iexact Hr1
  iintro HO
  iapply (Rounds.wp_signal 𝒱₀ ER (Rd AQ AO) (c : Thread nD τ) none (dst := (nxt c : Thread nD τ)) (sem := barS) (r := 0) (d := false) (κ := κ (barCell (nxt c)))
      (by rw [duties_bar]; exact Finset.mem_univ _) rfl () (owe ((owList c).drop 2)) rfl) $$ [HO Ht2 HlL]
  · isplitr; · iexact HI2
    isplitl [HO]; · iexact HO
    isplitl [Ht2]; · iexact Ht2
    isplitl [HlL]; · rw [payload_bar_false]; iexact HlL
    iexact Hr2
  iintro HO
  iapply (Rounds.wp_wait_rest_token 𝒱₀ ER (Rd AQ AO) (c : Thread nD τ) none (κ := κ (barCell c))
      (wpE_semWait_eq 𝒱₀ (c : Thread nD τ) none Set.univ) (Set.mem_univ _) () (O := owe ((owList c).drop 2)) (W := W) (R := 0) (m := 0) (T := ∅)
      ((Nat.zero_add 2).trans (expect_bar AQ AO c).symm)) $$ [Hc HO Hat]
  · isplitr; · iexact HI
    isplitl [Hc]; · iexact Hc
    isplitl [HO]; · iexact HO
    isplitr; · iapply (mayWait c (.reg barS) _ (bar_wait c)); iexact Hlev
    iexact Hat
  iintro ⟨HO, Hat, -, Hpay⟩
  ihave Hp := (Entails.of_eq (rest_bar AQ AO c)) $$ Hpay
  icases Hp with ⟨HR', HL'⟩
  iapply fupd_wp
  imod (close AQ AO (κ (barCell c)) (barCell c)) $$ [Hat] with Hz
  · isplitr; · iexact HI
    iexact Hat
  imodintro
  iapply HK
  isplitl [HR']; · iexact HR'
  isplitl [HL']; · iexact HL'
  isplitl [Hz]; · iexact Hz
  iexists _; iexact HO

/-! ## The own slot -/

theorem read_wq (f : (cc0_stg1_0 : Ref sig .tc).ty.Contents (Elt F)) :
    wqM.view.readAt (Elt F) (Rect.unit (s := S768x512) ![0, 0] S768x512.size inb_S768x512_S768x512_0_0).toLoadRect f = f :=
  Memref.readAt_unit_zero _ _ (by decide) _ _
theorem read_wo (f : (cc0_stg2_0 : Ref sig .tc).ty.Contents (Elt F)) :
    woM.view.readAt (Elt F) (Rect.unit (s := S512x768) ![0, 0] S512x768.size inb_S512x768_S512x768_0_0).toLoadRect f = f :=
  Memref.readAt_unit_zero _ _ (by decide) _ _

theorem fill_wp (o : (cc0_stg5_0 : Ref sig .tc).ty.Contents (Elt F)) (x : (cc0_stg0_0 : Ref sig .tc).ty.Contents (Elt F))
    (kt : (cc0_stg3_0 : Ref sig .tc).ty.Contents (Elt F)) (vt : (cc0_stg4_0 : Ref sig .tc).ty.Contents (Elt F)) (Kt : PUnit.{1} → sProp 𝕄) :
    iprop((slotAny 0 c (back c 0) ∗ slotAny 1 c (back c 0)) ∗ pt c cc0_stg1_0 (AQ c) ∗ pt c cc0_stg2_0 (AO c) ∗ work c x kt vt o
        ∗ ((slot2 AQ AO c (back c 0) fullShare ∗ pt c cc0_stg1_0 (AQ c) ∗ pt c cc0_stg2_0 (AO c) ∗ work c x kt vt (k0_pay3 (F := F))) -∗ wpc c k Kt))
      ⊢ wpc c (fillK c k) Kt := by
  have h1 : k0_off1 c = o3 c := (eo1 c).trans (congrArg o3 (back_zero c))
  have h2 : k0_off2 c = o3 c := (eo2 c).trans (congrArg o3 (back_zero c))
  rw [back_zero, show slotAny (F := F) 0 c c = iprop(∃ f, slQ c c fullShare f) from if_pos rfl,
    show slotAny (F := F) 1 c c = iprop(∃ f, slO c c fullShare f) from if_neg (by decide)]
  unfold slot2
  rw [show slot AQ AO 0 c c fullShare = slQ c c fullShare (WQ AQ) from if_pos rfl,
    show slot AQ AO 1 c c fullShare = slO c c fullShare (WO AO) from if_neg (by decide)]
  have hsQ : ∀ h : InbQ (k0_off1 c), (rectQ (k0_off1 c) h).set = (rectQ (o3 c) (o3_inbQ c)).set := by rw [h1]; intro h; rfl
  have hsO : ∀ h : InbO (k0_off2 c), (rectO (k0_off2 c) h).set = (rectO (o3 c) (o3_inbO c)).set := by rw [h2]; intro h; rfl
  have hfQ : ∀ (h : InbQ (k0_off1 c)) (f : (cc0_scratch0 : Ref sig .tc).ty.Contents (Elt F)), ∀ i ∈ (rectQ (o3 c) (o3_inbQ c)).set,
      (wqAll.access (rectQ (k0_off1 c) h)).write (Elt F) f (k0_pay1 (AQ c)) Finset.univ i = WQ AQ i := by
    rw [h1]; intro h f; exact fillQ AQ c h f
  have hfO : ∀ (h : InbO (k0_off2 c)) (f : (cc0_scratch1 : Ref sig .tc).ty.Contents (Elt F)), ∀ i ∈ (rectO (o3 c) (o3_inbO c)).set,
      (woAll.access (rectO (k0_off2 c) h)).write (Elt F) f (k0_pay2 (AO c)) Finset.univ i = WO AO i := by
    rw [h2]; intro h f; exact fillO AO c h f
  have eQ : ∀ (f : (cc0_scratch0 : Ref sig .tc).ty.Contents (Elt F)), ((c : Thread nD τ).loc cc0_scratch0 ↦[(rectQ (o3 c) (o3_inbQ c)).set]{fullShare}
      (wqAll.access (rectQ (k0_off1 c) (k0_off1_inb c))).write (Elt F) f (k0_pay1 (AQ c)) Finset.univ : sProp 𝕄)
      = (c : Thread nD τ).loc cc0_scratch0 ↦[(rectQ (o3 c) (o3_inbQ c)).set]{fullShare} WQ AQ := fun f => pointsTo_congr (hfQ (k0_off1_inb c) f)
  have eO : ∀ (f : (cc0_scratch1 : Ref sig .tc).ty.Contents (Elt F)), ((c : Thread nD τ).loc cc0_scratch1 ↦[(rectO (o3 c) (o3_inbO c)).set]{fullShare}
      (woAll.access (rectO (k0_off2 c) (k0_off2_inb c))).write (Elt F) f (k0_pay2 (AO c)) Finset.univ : sProp 𝕄)
      = (c : Thread nD τ).loc cc0_scratch1 ↦[(rectO (o3 c) (o3_inbO c)).set]{fullShare} WO AO := fun f => pointsTo_congr (hfO (k0_off2_inb c) f)
  unfold fillK wpc work slQ slO
  iintro ⟨⟨⟨%fa, Ha⟩, ⟨%fb, Hb⟩⟩, Hq, Hw, ⟨Hx, Hk, Hv, Hs2, Hs3, Ho⟩, HK⟩
  iapply (wp_load 𝒱₀ (c : Thread nD τ) none Set.univ (m := wqM) (Finset.subset_univ _)) $$ Hq
  iintro Hq
  iapply (wp_load 𝒱₀ (c : Thread nD τ) none Set.univ (m := wqAll) (S := (rectQ (o3 c) (o3_inbQ c)).set)
    (f := fa) (r := (rectQ (k0_off1 c) (k0_off1_inb c)).toLoadRect)
    (fun i hi => by obtain ⟨x, hx, rfl⟩ := Finset.mem_map.mp hi; rw [← hsQ (k0_off1_inb c)]; exact hx)) $$ Ha
  iintro Ha
  iapply (wp_store 𝒱₀ (c : Thread nD τ) none Set.univ (m := wqAll) (S := (rectQ (o3 c) (o3_inbQ c)).set)
    (f := fa) (r := rectQ (k0_off1 c) (k0_off1_inb c)) (Mk := Finset.univ)
    (fun i hi => by obtain ⟨x, hx, rfl⟩ := Finset.mem_map.mp hi; rw [← hsQ (k0_off1_inb c), ← Rect.map_emb_univ]; exact Finset.mem_map_of_mem _ (Finset.mem_univ x))) $$ Ha
  iintro Ha
  rw [read_wq]
  ihave Ha := (Entails.of_eq (eQ fa)) $$ Ha
  iapply (wp_load 𝒱₀ (c : Thread nD τ) none Set.univ (m := woM) (Finset.subset_univ _)) $$ Hw
  iintro Hw
  iapply (wp_load 𝒱₀ (c : Thread nD τ) none Set.univ (m := woAll) (S := (rectO (o3 c) (o3_inbO c)).set)
    (f := fb) (r := (rectO (k0_off2 c) (k0_off2_inb c)).toLoadRect)
    (fun i hi => by obtain ⟨x, hx, rfl⟩ := Finset.mem_map.mp hi; rw [← hsO (k0_off2_inb c)]; exact hx)) $$ Hb
  iintro Hb
  iapply (wp_store 𝒱₀ (c : Thread nD τ) none Set.univ (m := woAll) (S := (rectO (o3 c) (o3_inbO c)).set)
    (f := fb) (r := rectO (k0_off2 c) (k0_off2_inb c)) (Mk := Finset.univ)
    (fun i hi => by obtain ⟨x, hx, rfl⟩ := Finset.mem_map.mp hi; rw [← hsO (k0_off2_inb c), ← Rect.map_emb_univ]; exact Finset.mem_map_of_mem _ (Finset.mem_univ x))) $$ Hb
  iintro Hb
  rw [read_wo]
  ihave Hb := (Entails.of_eq (eO fb)) $$ Hb
  iapply (wp_load 𝒱₀ (c : Thread nD τ) none Set.univ (m := oM) (Finset.subset_univ _)) $$ Ho
  iintro Ho
  iapply (wp_store 𝒱₀ (c : Thread nD τ) none Set.univ (m := oM) (r := rOut) (Mk := Finset.univ) (Finset.subset_univ _)) $$ Ho
  iintro Ho
  rw [write_rOut]
  iapply HK
  isplitl [Ha Hb]
  · isplitl [Ha] <;> iassumption
  isplitl [Hq]; · iexact Hq
  isplitl [Hw]; · iexact Hw
  isplitl [Hx]; · iexact Hx
  isplitl [Hk]; · iexact Hk
  isplitl [Hv]; · iexact Hv
  isplitl [Hs2]; · iexact Hs2
  isplitl [Hs3]; · iexact Hs3
  iexact Ho

end Steps

end Cert.KRun

end
-- ==== Proof.Body.lean ====
/-
# The whole body

The barrier, the own slot, then the hops of both directions in turn with the blocks they bring.
-/
module

public import proofs.«01_k».proof.Proof.Run

@[expose] public section

noncomputable section

namespace Cert.KRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (AQ : Dev nD → Vec F S768x512 .bf16) (AO : Dev nD → Vec F S512x768 .bf16)

/-- The devices the transfers name: the right neighbour for the hops to the right, the left one for those to the left. -/
theorem dv3_eq (c : Dev nD) : (⟨k0_dev3 c, k0_dev3_lt c⟩ : Dev nD) = nxt c := Fin.ext ((k0_dev3_eq c).trans (by revert c; decide))
theorem dv4_eq (c : Dev nD) : (⟨k0_dev4 c, k0_dev4_lt c⟩ : Dev nD) = nxt c := Fin.ext ((k0_dev4_eq c).trans (by revert c; decide))
theorem dv5_eq (c : Dev nD) : (⟨k0_dev5 c, k0_dev5_lt c⟩ : Dev nD) = prv c := Fin.ext ((k0_dev5_eq c).trans (by revert c; decide))
theorem dv6_eq (c : Dev nD) : (⟨k0_dev6 c, k0_dev6_lt c⟩ : Dev nD) = prv c := Fin.ext ((k0_dev6_eq c).trans (by revert c; decide))
theorem dv7_eq (c : Dev nD) : (⟨k0_dev7 c, k0_dev7_lt c⟩ : Dev nD) = nxt c := Fin.ext ((k0_dev7_eq c).trans (by revert c; decide))
theorem dv8_eq (c : Dev nD) : (⟨k0_dev8 c, k0_dev8_lt c⟩ : Dev nD) = nxt c := Fin.ext ((k0_dev8_eq c).trans (by revert c; decide))
theorem dv9_eq (c : Dev nD) : (⟨k0_dev9 c, k0_dev9_lt c⟩ : Dev nD) = prv c := Fin.ext ((k0_dev9_eq c).trans (by revert c; decide))
theorem dv10_eq (c : Dev nD) : (⟨k0_dev10 c, k0_dev10_lt c⟩ : Dev nD) = prv c := Fin.ext ((k0_dev10_eq c).trans (by revert c; decide))
theorem dv11_eq (c : Dev nD) : (⟨k0_dev11 c, k0_dev11_lt c⟩ : Dev nD) = nxt c := Fin.ext ((k0_dev11_eq c).trans (by revert c; decide))
theorem dv12_eq (c : Dev nD) : (⟨k0_dev12 c, k0_dev12_lt c⟩ : Dev nD) = nxt c := Fin.ext ((k0_dev12_eq c).trans (by revert c; decide))
theorem dv13_eq (c : Dev nD) : (⟨k0_dev13 c, k0_dev13_lt c⟩ : Dev nD) = prv c := Fin.ext ((k0_dev13_eq c).trans (by revert c; decide))
theorem dv14_eq (c : Dev nD) : (⟨k0_dev14 c, k0_dev14_lt c⟩ : Dev nD) = prv c := Fin.ext ((k0_dev14_eq c).trans (by revert c; decide))
theorem dv15_eq (c : Dev nD) : (⟨k0_dev15 c, k0_dev15_lt c⟩ : Dev nD) = nxt c := Fin.ext ((k0_dev15_eq c).trans (by revert c; decide))
theorem dv16_eq (c : Dev nD) : (⟨k0_dev16 c, k0_dev16_lt c⟩ : Dev nD) = nxt c := Fin.ext ((k0_dev16_eq c).trans (by revert c; decide))

/-- The device's result: its own block first, then the blocks in the order they come. -/
def outAll (c : Dev nD) (x : (cc0_stg0_0 : Ref sig .tc).ty.Contents (Elt F)) (kt : (cc0_stg3_0 : Ref sig .tc).ty.Contents (Elt F))
    (vt : (cc0_stg4_0 : Ref sig .tc).ty.Contents (Elt F)) : (cc0_stg5_0 : Ref sig .tc).ty.Contents (Elt F) :=
  blockOut AQ AO x kt vt (back c 4) <| blockOut AQ AO x kt vt (back c 3) <| blockOut AQ AO x kt vt (ahead c 3) <|
  blockOut AQ AO x kt vt (back c 2) <| blockOut AQ AO x kt vt (ahead c 2) <| blockOut AQ AO x kt vt (back c 1) <|
  blockOut AQ AO x kt vt (ahead c 1) <| blockOut AQ AO x kt vt (back c 0) (k0_pay3 (F := F))

/-- What the device signals its neighbours with, and what it keeps. -/
theorem give (c : Dev nD) :
    iprop((∃ f, pt c cc0_scratch0 f) ∗ (∃ f, pt c cc0_scratch1 f)
        ∗ (reached ER (dmaCell c (rsR 0 0)) 0 ∗ reached ER (dmaCell c (rsR 1 0)) 0)
        ∗ (reached ER (dmaCell c (rsR 0 1)) 0 ∗ reached ER (dmaCell c (rsR 1 1)) 0)
        ∗ (reached ER (dmaCell c (rsR 0 2)) 0 ∗ reached ER (dmaCell c (rsR 1 2)) 0)
        ∗ (reached ER (dmaCell c (rsR 0 3)) 0 ∗ reached ER (dmaCell c (rsR 1 3)) 0)
        ∗ (reached ER (dmaCell c (rsL 0 0)) 0 ∗ reached ER (dmaCell c (rsL 1 0)) 0)
        ∗ (reached ER (dmaCell c (rsL 0 1)) 0 ∗ reached ER (dmaCell c (rsL 1 1)) 0)
        ∗ (reached ER (dmaCell c (rsL 0 2)) 0 ∗ reached ER (dmaCell c (rsL 1 2)) 0))
      ⊢ (iprop(landsR (prv c) ∗ landsL (nxt c) ∗ slotAny 0 c (back c 0) ∗ slotAny 1 c (back c 0)) : sProp 𝕄) := by
  unfold landsR landsL
  simp only [landR_prv, landL_nxt]
  iintro ⟨H0, H1, ⟨Ra0, Rb0⟩, ⟨Ra1, Rb1⟩, ⟨Ra2, Rb2⟩, ⟨Ra3, Rb3⟩, ⟨La0, Lb0⟩, ⟨La1, Lb1⟩, La2, Lb2⟩
  ihave H0 := (cutQ_any (F := F) c) $$ H0
  ihave H1 := (cutO_any (F := F) c) $$ H1
  icases H0 with ⟨P0, P1, P2, P3, P4, P5, P6, P7⟩
  icases H1 with ⟨Q0, Q1, Q2, Q3, Q4, Q5, Q6, Q7⟩
  isplitl [P1 P2 P3 P4 Q1 Q2 Q3 Q4 Ra0 Rb0 Ra1 Rb1 Ra2 Rb2 Ra3 Rb3]
  · isplitl [P1 Q1 Ra0 Rb0]
    · isplitl [P1 Ra0]
      · isplitl [P1]; · iexact P1
        iexact Ra0
      isplitl [Q1]; · iexact Q1
      iexact Rb0
    isplitl [P2 Q2 Ra1 Rb1]
    · isplitl [P2 Ra1]
      · isplitl [P2]; · iexact P2
        iexact Ra1
      isplitl [Q2]; · iexact Q2
      iexact Rb1
    isplitl [P3 Q3 Ra2 Rb2]
    · isplitl [P3 Ra2]
      · isplitl [P3]; · iexact P3
        iexact Ra2
      isplitl [Q3]; · iexact Q3
      iexact Rb2
    isplitl [P4 Ra3]
    · isplitl [P4]; · iexact P4
      iexact Ra3
    isplitl [Q4]; · iexact Q4
    iexact Rb3
  isplitl [P5 P6 P7 Q5 Q6 Q7 La0 Lb0 La1 Lb1 La2 Lb2]
  · isplitl [P5 Q5 La0 Lb0]
    · isplitl [P5 La0]
      · isplitl [P5]; · iexact P5
        iexact La0
      isplitl [Q5]; · iexact Q5
      iexact Lb0
    isplitl [P6 Q6 La1 Lb1]
    · isplitl [P6 La1]
      · isplitl [P6]; · iexact P6
        iexact La1
      isplitl [Q6]; · iexact Q6
      iexact Lb1
    isplitl [P7 La2]
    · isplitl [P7]; · iexact P7
      iexact La2
    isplitl [Q7]; · iexact Q7
    iexact Lb2
  isplitl [P0] <;> iassumption

/-- The own slot, under the name the first hop to the left has for it. -/
theorem own_ahead (c : Dev nD) :
    slot2 AQ AO c (back c 0) fullShare.right.left ⊢ slot2 AQ AO c (ahead c (0 : Fin 3).val) (shL 0) := by
  rw [show ahead c (0 : Fin 3).val = back c 0 from ahead_zero c]
  exact BI.Entails.refl _
theorem ahead_own (c : Dev nD) :
    slot2 AQ AO c (ahead c (0 : Fin 3).val) (shL 0) ⊢ slot2 AQ AO c (back c 0) fullShare.right.left := by
  rw [show ahead c (0 : Fin 3).val = back c 0 from ahead_zero c]
  exact BI.Entails.refl _

section Whole
variable (κ : GSem nD τ sig → ℕ) (c : Dev nD)

/-- Before the body, apart from the shared records and the staged buffers. -/
def before (c : Dev nD) : sProp 𝕄 :=
  iprop(barHold c ∗ (hopR c 0 ∗ hopR c 1 ∗ hopR c 2 ∗ hopR c 3) ∗ (hopL c 0 ∗ hopL c 1 ∗ hopL c 2)
    ∗ (∃ f, pt c cc0_scratch0 f) ∗ (∃ f, pt c cc0_scratch1 f) ∗ ow c (owList c))
/-- After it. -/
def after (c : Dev nD) : sProp 𝕄 :=
  iprop(semVal (barCell c) 0 ∗ (zeroR c 0 ∗ zeroR c 1 ∗ zeroR c 2 ∗ zeroR c 3) ∗ (zeroL c 0 ∗ zeroL c 1 ∗ zeroL c 2)
    ∗ (∃ f, pt c cc0_scratch0 f) ∗ (∃ f, pt c cc0_scratch1 f) ∗ ow c [])

set_option maxHeartbeats 4000000 in
theorem structured_wp (x : (cc0_stg0_0 : Ref sig .tc).ty.Contents (Elt F)) (kt : (cc0_stg3_0 : Ref sig .tc).ty.Contents (Elt F))
    (vt : (cc0_stg4_0 : Ref sig .tc).ty.Contents (Elt F)) (o : (cc0_stg5_0 : Ref sig .tc).ty.Contents (Elt F)) (Kt : PUnit.{1} → sProp 𝕄) :
    iprop(records AQ AO κ ∗ levAts L lv ∗ before c ∗ pt c cc0_stg1_0 (AQ c) ∗ pt c cc0_stg2_0 (AO c) ∗ work c x kt vt o
        ∗ ((after c ∗ pt c cc0_stg1_0 (AQ c) ∗ pt c cc0_stg2_0 (AO c) ∗ work c x kt vt (outAll AQ AO c x kt vt)) -∗ Kt ⟨⟩))
      ⊢ wpc c (structured (F := F)) Kt := by
  unfold structured before after hopR hopL zeroR zeroL outAll
  rw [wpc, wp_deviceId]
  dsimp only
  iintro ⟨#HR, #Hlev, ⟨HB, ⟨⟨T0, As0, Ar0, C0, #Ra0, #Rb0⟩, ⟨T1, As1, Ar1, C1, #Ra1, #Rb1⟩, ⟨T2, As2, Ar2, C2, #Ra2, #Rb2⟩, ⟨T3, As3, Ar3, C3, #Ra3, #Rb3⟩⟩, ⟨⟨U0, Bs0, Br0, D0, #La0, #Lb0⟩, ⟨U1, Bs1, Br1, D1, #La1, #Lb1⟩, ⟨U2, Bs2, Br2, D2, #La2, #Lb2⟩⟩, S0, S1, HO⟩, Hq, Hw, Hwork, HK⟩
  ihave Hg := (give (F := F) c) $$ [S0 S1]
  · isplitl [S0]; · iexact S0
    isplitl [S1]; · iexact S1
    isplitr
    · isplitr; · iexact Ra0
      iexact Rb0
    isplitr
    · isplitr; · iexact Ra1
      iexact Rb1
    isplitr
    · isplitr; · iexact Ra2
      iexact Rb2
    isplitr
    · isplitr; · iexact Ra3
      iexact Rb3
    isplitr
    · isplitr; · iexact La0
      iexact Lb0
    isplitr
    · isplitr; · iexact La1
      iexact Lb1
    isplitr; · iexact La2
    iexact Lb2
  icases Hg with ⟨HgR, HgL, P0, Q0⟩
  iapply (barrier_wp AQ AO κ c)
  isplitr; · iexact HR
  isplitr; · iexact Hlev
  isplitl [HB]; · iexact HB
  isplitl [HgR]; · iexact HgR
  isplitl [HgL]; · iexact HgL
  isplitl [HO]; · iexact HO
  unfold landsR landsL
  iintro ⟨⟨R0, R1, R2, R3⟩, ⟨L0, L1, L2⟩, Hz, HO⟩
  iapply (fill_wp AQ AO c _ o x kt vt)
  isplitl [P0 Q0]; · isplitl [P0] <;> iassumption
  isplitl [Hq]; · iexact Hq
  isplitl [Hw]; · iexact Hw
  isplitl [Hwork]; · iexact Hwork
  iintro ⟨M, Hq, Hw, Hwork⟩
  ihave M := (halve AQ AO c (back c 0) fullShare) $$ M
  icases M with ⟨M1, M⟩
  ihave M := (halve AQ AO c (back c 0) fullShare.right) $$ M
  icases M with ⟨M2, M3⟩
  iapply (sendR_wp AQ AO κ c _ ((owList c).drop 4) _ 0 _ _ (dv3_eq c) (dv4_eq c))
  isplitr; · iexact HR
  isplitl [M1]; · iexact M1
  isplitl [R0]; · iexact R0
  isplitl [T0]; · iexact T0
  isplitl [HO]; · iexact HO
  iintro ⟨T0, HO⟩
  iapply (sendL_wp AQ AO κ c _ ((owList c).drop 6) _ 0 _ _ (dv5_eq c) (dv6_eq c))
  isplitr; · iexact HR
  isplitl [M2]; · iapply (own_ahead AQ AO c) $$ M2
  isplitl [L0]; · iexact L0
  isplitl [U0]; · iexact U0
  isplitl [HO]; · iexact HO
  iintro ⟨U0, HO⟩
  iapply (blockMy_wp AQ AO c _ x kt vt)
  isplitl [M3]; · iexact M3
  isplitl [Hwork]; · iexact Hwork
  iintro ⟨M3, Hwork⟩
  iapply (recvR_wp AQ AO κ c _ ((owList c).drop 6) _ 0 (fun t => above c 6 _ (by revert t; decide)))
  isplitr; · iexact HR
  isplitr; · iexact Hlev
  isplitl [C0]; · iexact C0
  isplitl [Ar0]; · iexact Ar0
  isplitl [HO]; · iexact HO
  iintro ⟨X0, Ar0, HO⟩
  ihave X0 := (halve AQ AO c (back c (1 + ((0 : Fin 4)).val)) fullShare) $$ X0
  icases X0 with ⟨X0l, X0⟩
  iapply (sendR_wp AQ AO κ c _ ((owList c).drop 8) _ 1 _ _ (dv7_eq c) (dv8_eq c))
  isplitr; · iexact HR
  isplitl [X0l]; · iexact X0l
  isplitl [R1]; · iexact R1
  isplitl [T1]; · iexact T1
  isplitl [HO]; · iexact HO
  iintro ⟨T1, HO⟩
  iapply (recvL_wp AQ AO κ c _ ((owList c).drop 8) _ 0 (fun t => above c 8 _ (by revert t; decide)))
  isplitr; · iexact HR
  isplitr; · iexact Hlev
  isplitl [D0]; · iexact D0
  isplitl [Br0]; · iexact Br0
  isplitl [HO]; · iexact HO
  iintro ⟨Y0, Br0, HO⟩
  ihave Y0 := (halve AQ AO c (ahead c (1 + ((0 : Fin 3)).val)) fullShare) $$ Y0
  icases Y0 with ⟨Y0l, Y0⟩
  iapply (sendL_wp AQ AO κ c _ ((owList c).drop 10) _ 1 _ _ (dv9_eq c) (dv10_eq c))
  isplitr; · iexact HR
  isplitl [Y0l]; · iexact Y0l
  isplitl [L1]; · iexact L1
  isplitl [U1]; · iexact U1
  isplitl [HO]; · iexact HO
  iintro ⟨U1, HO⟩
  iapply (blockL_wp AQ AO c _ x kt vt _ _ _ 0)
  isplitl [Y0]; · iexact Y0
  isplitl [Hwork]; · iexact Hwork
  iintro ⟨Y0, Hwork⟩
  iapply (blockR_wp AQ AO c _ x kt vt _ _ _ 0)
  isplitl [X0]; · iexact X0
  isplitl [Hwork]; · iexact Hwork
  iintro ⟨X0, Hwork⟩
  iapply (recvR_wp AQ AO κ c _ ((owList c).drop 10) _ 1 (fun t => above c 10 _ (by revert t; decide)))
  isplitr; · iexact HR
  isplitr; · iexact Hlev
  isplitl [C1]; · iexact C1
  isplitl [Ar1]; · iexact Ar1
  isplitl [HO]; · iexact HO
  iintro ⟨X1, Ar1, HO⟩
  ihave X1 := (halve AQ AO c (back c (1 + ((1 : Fin 4)).val)) fullShare) $$ X1
  icases X1 with ⟨X1l, X1⟩
  iapply (sendR_wp AQ AO κ c _ ((owList c).drop 12) _ 2 _ _ (dv11_eq c) (dv12_eq c))
  isplitr; · iexact HR
  isplitl [X1l]; · iexact X1l
  isplitl [R2]; · iexact R2
  isplitl [T2]; · iexact T2
  isplitl [HO]; · iexact HO
  iintro ⟨T2, HO⟩
  iapply (recvL_wp AQ AO κ c _ ((owList c).drop 12) _ 1 (fun t => above c 12 _ (by revert t; decide)))
  isplitr; · iexact HR
  isplitr; · iexact Hlev
  isplitl [D1]; · iexact D1
  isplitl [Br1]; · iexact Br1
  isplitl [HO]; · iexact HO
  iintro ⟨Y1, Br1, HO⟩
  ihave Y1 := (halve AQ AO c (ahead c (1 + ((1 : Fin 3)).val)) fullShare) $$ Y1
  icases Y1 with ⟨Y1l, Y1⟩
  iapply (sendL_wp AQ AO κ c _ ((owList c).drop 14) _ 2 _ _ (dv13_eq c) (dv14_eq c))
  isplitr; · iexact HR
  isplitl [Y1l]; · iexact Y1l
  isplitl [L2]; · iexact L2
  isplitl [U2]; · iexact U2
  isplitl [HO]; · iexact HO
  iintro ⟨U2, HO⟩
  iapply (blockL_wp AQ AO c _ x kt vt _ _ _ 1)
  isplitl [Y1]; · iexact Y1
  isplitl [Hwork]; · iexact Hwork
  iintro ⟨Y1, Hwork⟩
  iapply (blockR_wp AQ AO c _ x kt vt _ _ _ 1)
  isplitl [X1]; · iexact X1
  isplitl [Hwork]; · iexact Hwork
  iintro ⟨X1, Hwork⟩
  iapply (recvR_wp AQ AO κ c _ ((owList c).drop 14) _ 2 (fun t => above c 14 _ (by revert t; decide)))
  isplitr; · iexact HR
  isplitr; · iexact Hlev
  isplitl [C2]; · iexact C2
  isplitl [Ar2]; · iexact Ar2
  isplitl [HO]; · iexact HO
  iintro ⟨X2, Ar2, HO⟩
  ihave X2 := (halve AQ AO c (back c (1 + ((2 : Fin 4)).val)) fullShare) $$ X2
  icases X2 with ⟨X2l, X2⟩
  iapply (sendR_wp AQ AO κ c _ ((owList c).drop 16) _ 3 _ _ (dv15_eq c) (dv16_eq c))
  isplitr; · iexact HR
  isplitl [X2l]; · iexact X2l
  isplitl [R3]; · iexact R3
  isplitl [T3]; · iexact T3
  isplitl [HO]; · iexact HO
  iintro ⟨T3, HO⟩
  iapply (recvL_wp AQ AO κ c _ ((owList c).drop 16) _ 2 (fun t => above c 16 _ (by revert t; decide)))
  isplitr; · iexact HR
  isplitr; · iexact Hlev
  isplitl [D2]; · iexact D2
  isplitl [Br2]; · iexact Br2
  isplitl [HO]; · iexact HO
  iintro ⟨Y2, Br2, HO⟩
  iapply (blockL_wp AQ AO c _ x kt vt _ _ _ 2)
  isplitl [Y2]; · iexact Y2
  isplitl [Hwork]; · iexact Hwork
  iintro ⟨Y2, Hwork⟩
  iapply (blockR_wp AQ AO c _ x kt vt _ _ _ 2)
  isplitl [X2]; · iexact X2
  isplitl [Hwork]; · iexact Hwork
  iintro ⟨X2, Hwork⟩
  iapply (recvR_wp AQ AO κ c _ ((owList c).drop 16) _ 3 (fun t => above c 16 _ (by revert t; decide)))
  isplitr; · iexact HR
  isplitr; · iexact Hlev
  isplitl [C3]; · iexact C3
  isplitl [Ar3]; · iexact Ar3
  isplitl [HO]; · iexact HO
  iintro ⟨X3, Ar3, HO⟩
  iapply (blockR_wp AQ AO c _ x kt vt _ _ _ 3)
  isplitl [X3]; · iexact X3
  isplitl [Hwork]; · iexact Hwork
  iintro ⟨X3, Hwork⟩
  iapply (doneR_wp AQ AO κ c _ _ 0)
  isplitr; · iexact HR
  isplitr; · iexact Hlev
  isplitl [T0]; · iexact T0
  isplitl [As0]; · iexact As0
  isplitl [HO]; · iexact HO
  iintro ⟨V0, As0, HO⟩
  iapply (doneL_wp AQ AO κ c _ _ 0)
  isplitr; · iexact HR
  isplitr; · iexact Hlev
  isplitl [U0]; · iexact U0
  isplitl [Bs0]; · iexact Bs0
  isplitl [HO]; · iexact HO
  iintro ⟨W0, Bs0, HO⟩
  iapply (doneR_wp AQ AO κ c _ _ 1)
  isplitr; · iexact HR
  isplitr; · iexact Hlev
  isplitl [T1]; · iexact T1
  isplitl [As1]; · iexact As1
  isplitl [HO]; · iexact HO
  iintro ⟨V1, As1, HO⟩
  iapply (doneL_wp AQ AO κ c _ _ 1)
  isplitr; · iexact HR
  isplitr; · iexact Hlev
  isplitl [U1]; · iexact U1
  isplitl [Bs1]; · iexact Bs1
  isplitl [HO]; · iexact HO
  iintro ⟨W1, Bs1, HO⟩
  iapply (doneR_wp AQ AO κ c _ _ 2)
  isplitr; · iexact HR
  isplitr; · iexact Hlev
  isplitl [T2]; · iexact T2
  isplitl [As2]; · iexact As2
  isplitl [HO]; · iexact HO
  iintro ⟨V2, As2, HO⟩
  iapply (doneL_wp AQ AO κ c _ _ 2)
  isplitr; · iexact HR
  isplitr; · iexact Hlev
  isplitl [U2]; · iexact U2
  isplitl [Bs2]; · iexact Bs2
  isplitl [HO]; · iexact HO
  iintro ⟨W2, Bs2, HO⟩
  iapply (doneR_wp AQ AO κ c _ _ 3)
  isplitr; · iexact HR
  isplitr; · iexact Hlev
  isplitl [T3]; · iexact T3
  isplitl [As3]; · iexact As3
  isplitl [HO]; · iexact HO
  iintro ⟨V3, As3, HO⟩
  rw [wpc, wp_ret]
  imodintro
  iapply HK
  ihave M := (rejoin AQ AO c (back c 0) fullShare.right) $$ [W0 M3]
  · isplitl [W0]; · iapply (ahead_own AQ AO c) $$ W0
    iexact M3
  ihave M := (rejoin AQ AO c (back c 0) fullShare) $$ [V0 M]
  · isplitl [V0]; · iexact V0
    iexact M
  ihave X0 := (rejoin AQ AO c (back c 1) fullShare) $$ [V1 X0]
  · isplitl [V1]; · iexact V1
    iexact X0
  ihave X1 := (rejoin AQ AO c (back c 2) fullShare) $$ [V2 X1]
  · isplitl [V2]; · iexact V2
    iexact X1
  ihave X2 := (rejoin AQ AO c (back c 3) fullShare) $$ [V3 X2]
  · isplitl [V3]; · iexact V3
    iexact X2
  ihave Y0 := (rejoin AQ AO c (ahead c 1) fullShare) $$ [W1 Y0]
  · isplitl [W1]; · iexact W1
    iexact Y0
  ihave Y1 := (rejoin AQ AO c (ahead c 2) fullShare) $$ [W2 Y1]
  · isplitl [W2]; · iexact W2
    iexact Y1
  ihave Hs := (whole2 AQ AO c) $$ [M X0 X1 X2 X3 Y0 Y1 Y2]
  · isplitl [M]; · iexact M
    isplitl [X0]; · iexact X0
    isplitl [X1]; · iexact X1
    isplitl [X2]; · iexact X2
    isplitl [X3]; · iexact X3
    isplitl [Y0]; · iexact Y0
    isplitl [Y1]; · iexact Y1
    iexact Y2
  icases Hs with ⟨S0, S1⟩
  isplitr [Hq Hw Hwork]
  · isplitl [Hz]; · iexact Hz
    isplitl [As0 Ar0 As1 Ar1 As2 Ar2 As3 Ar3]
    · isplitl [As0 Ar0]; · isplitl [As0] <;> iassumption
      isplitl [As1 Ar1]; · isplitl [As1] <;> iassumption
      isplitl [As2 Ar2]; · isplitl [As2] <;> iassumption
      isplitl [As3] <;> iassumption
    isplitl [Bs0 Br0 Bs1 Br1 Bs2 Br2]
    · isplitl [Bs0 Br0]; · isplitl [Bs0] <;> iassumption
      isplitl [Bs1 Br1]; · isplitl [Bs1] <;> iassumption
      isplitl [Bs2] <;> iassumption
    isplitl [S0]; · iexact S0
    isplitl [S1]; · iexact S1
    iexact HO
  isplitl [Hq]; · iexact Hq
  isplitl [Hw]; · iexact Hw
  iexact Hwork

end Whole

end Cert.KRun

end
-- ==== Proof.Cells.lean ====
/-
# The protocol's ghost state at launch

What every device holds of the protocol before its kernel runs, how its cells are opened from their counters,
and that the launch makes all of it: the rights to open, every duty's token on the device that pays it, and the
credit for what the others owe.
-/
module

public import proofs.«01_k».proof.Proof.Body
public import proofs.«01_k».proof.Proof.Gen.KernelIdeal.Regions
public import Idealize.ShloMosaic.Lib.Pipeline.RegionTalk

@[expose] public section

noncomputable section

namespace Cert.KRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (AQ : Dev nD → Vec F S768x512 .bf16) (AO : Dev nD → Vec F S512x768 .bf16)

/-! ## The semaphores one by one -/

/-- The device whose cell of semaphore `k` device `c` pays: its own for a send, the neighbour's for a receive. -/
def tgt (c : Dev nD) (k : Fin 28) : Dev nD :=
  if k.val < 8 then c else if k.val < 16 then nxt c else if k.val < 22 then c else prv c
def tgtBack (c : Dev nD) (k : Fin 28) : Dev nD :=
  if k.val < 8 then c else if k.val < 16 then prv c else if k.val < 22 then c else nxt c
theorem tgtBack_tgt : ∀ (c : Dev nD) (k : Fin 28), tgtBack (tgt c k) k = c := by decide +kernel
theorem tgt_tgtBack : ∀ (c : Dev nD) (k : Fin 28), tgt (tgtBack c k) k = c := by decide +kernel
def tgtEquiv : Dev nD × Fin 28 ≃ Dev nD × Fin 28 :=
  ⟨fun p => (tgt p.1 p.2, p.2), fun p => (tgtBack p.1 p.2, p.2), fun p => Prod.ext (tgtBack_tgt p.1 p.2) rfl,
    fun p => Prod.ext (tgt_tgtBack p.1 p.2) rfl⟩
/-- The receive semaphores. -/
def isRecv (k : Fin 28) : Bool := (decide (8 ≤ k.val) && decide (k.val < 16)) || decide (22 ≤ k.val)

/-- What device `c` holds at its cell of semaphore `q`, which it pays on device `d`. -/
def res (c d : Dev nD) (q : DmaSem sig) (b : Bool) : sProp 𝕄 :=
  iprop((atPos ER (dmaCell c q) 0 ∅ 0 ∗ reached ER (dmaCell c q) 0) ∗ dutyTok ER (dmaCell d q) 0 true ∗ (if b then crd c q else emp))

theorem hopR_intro (c : Dev nD) (r : Fin 4) :
    iprop(res c c (ssR 0 r) false ∗ res c c (ssR 1 r) false ∗ res c (nxt c) (rsR 0 r) true ∗ res c (nxt c) (rsR 1 r) true)
      ⊢ (hopR c r : sProp 𝕄) := by
  unfold res hopR stok
  simp only [Bool.false_eq_true, if_false, if_true]
  iintro ⟨⟨⟨A0, #R0⟩, T0, -⟩, ⟨⟨A1, #R1⟩, T1, -⟩, ⟨⟨A2, #R2⟩, T2, C2⟩, ⟨⟨A3, #R3⟩, T3, C3⟩⟩
  isplitl [T0 T1 T2 T3]
  · isplitl [T0 T2]
    · isplitl [T0]; · iexact T0
      isplitr; · iexact R0
      iexact T2
    isplitl [T1]; · iexact T1
    isplitr; · iexact R1
    iexact T3
  isplitl [A0 A1]; · isplitl [A0] <;> iassumption
  isplitl [A2 A3]; · isplitl [A2] <;> iassumption
  isplitl [C2 C3]; · isplitl [C2] <;> iassumption
  isplitr; · iexact R2
  iexact R3

theorem hopL_intro (c : Dev nD) (r : Fin 3) :
    iprop(res c c (ssL 0 r) false ∗ res c c (ssL 1 r) false ∗ res c (prv c) (rsL 0 r) true ∗ res c (prv c) (rsL 1 r) true)
      ⊢ (hopL c r : sProp 𝕄) := by
  unfold res hopL stok
  simp only [Bool.false_eq_true, if_false, if_true]
  iintro ⟨⟨⟨A0, #R0⟩, T0, -⟩, ⟨⟨A1, #R1⟩, T1, -⟩, ⟨⟨A2, #R2⟩, T2, C2⟩, ⟨⟨A3, #R3⟩, T3, C3⟩⟩
  isplitl [T0 T1 T2 T3]
  · isplitl [T0 T2]
    · isplitl [T0]; · iexact T0
      isplitr; · iexact R0
      iexact T2
    isplitl [T1]; · iexact T1
    isplitr; · iexact R1
    iexact T3
  isplitl [A0 A1]; · isplitl [A0] <;> iassumption
  isplitl [A2 A3]; · isplitl [A2] <;> iassumption
  isplitl [C2 C3]; · isplitl [C2] <;> iassumption
  isplitr; · iexact R2
  iexact R3

/-- The semaphores hop by hop. -/
def order : List (Fin 28) :=
  [0, 4, 8, 12, 1, 5, 9, 13, 2, 6, 10, 14, 3, 7, 11, 15, 16, 19, 22, 25, 17, 20, 23, 26, 18, 21, 24, 27]
theorem order_all : Finset.univ = order.toFinset := by decide
theorem order_nodup : order.Nodup := by decide
theorem bigSep_order (Φ : Fin 28 → sProp 𝕄) : bigSep Finset.univ Φ
    = iprop(Φ 0 ∗ Φ 4 ∗ Φ 8 ∗ Φ 12 ∗ Φ 1 ∗ Φ 5 ∗ Φ 9 ∗ Φ 13 ∗ Φ 2 ∗ Φ 6 ∗ Φ 10 ∗ Φ 14 ∗ Φ 3 ∗ Φ 7 ∗ Φ 11 ∗ Φ 15
      ∗ Φ 16 ∗ Φ 19 ∗ Φ 22 ∗ Φ 25 ∗ Φ 17 ∗ Φ 20 ∗ Φ 23 ∗ Φ 26 ∗ Φ 18 ∗ Φ 21 ∗ Φ 24 ∗ Φ 27) :=
  bigSep_univ_eq_bigSepL order order_all order_nodup Φ

def hopsAll (c : Dev nD) : sProp 𝕄 := iprop((hopR c 0 ∗ hopR c 1 ∗ hopR c 2 ∗ hopR c 3) ∗ (hopL c 0 ∗ hopL c 1 ∗ hopL c 2))

theorem four {P₀ P₁ P₂ P₃ Q R S : sProp 𝕄} (h : iprop(P₀ ∗ P₁ ∗ P₂ ∗ P₃) ⊢ Q) (h' : R ⊢ S) :
    iprop(P₀ ∗ P₁ ∗ P₂ ∗ P₃ ∗ R) ⊢ iprop(Q ∗ S) := by
  iintro ⟨A, B, C, D, E⟩
  isplitl [A B C D]
  · iapply h
    isplitl [A]; · iexact A
    isplitl [B]; · iexact B
    isplitl [C] <;> iassumption
  iapply h' $$ E
theorem four_back {P₀ P₁ P₂ P₃ Q R S : sProp 𝕄} (h : Q ⊢ iprop(P₀ ∗ P₁ ∗ P₂ ∗ P₃)) (h' : S ⊢ R) :
    iprop(Q ∗ S) ⊢ iprop(P₀ ∗ P₁ ∗ P₂ ∗ P₃ ∗ R) := by
  iintro ⟨A, E⟩
  ihave A := h $$ A
  icases A with ⟨A, B, C, D⟩
  isplitl [A]; · iexact A
  isplitl [B]; · iexact B
  isplitl [C]; · iexact C
  isplitl [D]; · iexact D
  iapply h' $$ E

theorem hops_intro (c : Dev nD) :
    (bigSep Finset.univ fun k : Fin 28 => res c (tgt c k) (dq k) (isRecv k)) ⊢ (hopsAll c : sProp 𝕄) := by
  rw [bigSep_order]
  have h : iprop(res c (tgt c 0) (dq 0) (isRecv 0) ∗ res c (tgt c 4) (dq 4) (isRecv 4) ∗ res c (tgt c 8) (dq 8) (isRecv 8) ∗ res c (tgt c 12) (dq 12) (isRecv 12)
      ∗ res c (tgt c 1) (dq 1) (isRecv 1) ∗ res c (tgt c 5) (dq 5) (isRecv 5) ∗ res c (tgt c 9) (dq 9) (isRecv 9) ∗ res c (tgt c 13) (dq 13) (isRecv 13)
      ∗ res c (tgt c 2) (dq 2) (isRecv 2) ∗ res c (tgt c 6) (dq 6) (isRecv 6) ∗ res c (tgt c 10) (dq 10) (isRecv 10) ∗ res c (tgt c 14) (dq 14) (isRecv 14)
      ∗ res c (tgt c 3) (dq 3) (isRecv 3) ∗ res c (tgt c 7) (dq 7) (isRecv 7) ∗ res c (tgt c 11) (dq 11) (isRecv 11) ∗ res c (tgt c 15) (dq 15) (isRecv 15)
      ∗ res c (tgt c 16) (dq 16) (isRecv 16) ∗ res c (tgt c 19) (dq 19) (isRecv 19) ∗ res c (tgt c 22) (dq 22) (isRecv 22) ∗ res c (tgt c 25) (dq 25) (isRecv 25)
      ∗ res c (tgt c 17) (dq 17) (isRecv 17) ∗ res c (tgt c 20) (dq 20) (isRecv 20) ∗ res c (tgt c 23) (dq 23) (isRecv 23) ∗ res c (tgt c 26) (dq 26) (isRecv 26)
      ∗ res c (tgt c 18) (dq 18) (isRecv 18) ∗ res c (tgt c 21) (dq 21) (isRecv 21) ∗ res c (tgt c 24) (dq 24) (isRecv 24) ∗ res c (tgt c 27) (dq 27) (isRecv 27))
      ⊢ (iprop(hopR c 0 ∗ hopR c 1 ∗ hopR c 2 ∗ hopR c 3 ∗ hopL c 0 ∗ hopL c 1 ∗ hopL c 2) : sProp 𝕄) :=
    four (hopR_intro c 0) <| four (hopR_intro c 1) <| four (hopR_intro c 2) <| four (hopR_intro c 3) <|
    four (hopL_intro c 0) <| four (hopL_intro c 1) <| hopL_intro c 2
  refine h.trans ?_
  unfold hopsAll
  iintro ⟨A, B, C, D, H⟩
  isplitl [A B C D]
  · isplitl [A]; · iexact A
    isplitl [B]; · iexact B
    isplitl [C] <;> iassumption
  iexact H

/-- The counters at zero, given back. -/
theorem sems_back (c : Dev nD) :
    iprop((zeroR c 0 ∗ zeroR c 1 ∗ zeroR c 2 ∗ zeroR c 3) ∗ (zeroL c 0 ∗ zeroL c 1 ∗ zeroL c 2))
      ⊢ (Pipeline.ownSems0 (Ix := Unit) (Name := ℕ) (U := UU) (Lvl := ℕ) (Val := Elt F) (τ := τ) osem c : sProp 𝕄) := by
  have z (s₀ s₁ r₀ r₁ : DmaSem sig) : iprop(zero2 c s₀ s₁ ∗ zero2 c r₀ r₁)
      ⊢ (iprop(semVal (dmaCell c s₀) 0 ∗ semVal (dmaCell c s₁) 0 ∗ semVal (dmaCell c r₀) 0 ∗ semVal (dmaCell c r₁) 0) : sProp 𝕄) := by
    iintro ⟨⟨A, B⟩, C, D⟩
    isplitl [A]; · iexact A
    isplitl [B]; · iexact B
    isplitl [C] <;> iassumption
  unfold Pipeline.ownSems0
  rw [bigSep_order]
  have h : iprop(zeroR c 0 ∗ zeroR c 1 ∗ zeroR c 2 ∗ zeroR c 3 ∗ zeroL c 0 ∗ zeroL c 1 ∗ zeroL c 2) ⊢ (iprop(
      semVal (dmaCell c (dq 0)) 0 ∗ semVal (dmaCell c (dq 4)) 0 ∗ semVal (dmaCell c (dq 8)) 0 ∗ semVal (dmaCell c (dq 12)) 0
      ∗ semVal (dmaCell c (dq 1)) 0 ∗ semVal (dmaCell c (dq 5)) 0 ∗ semVal (dmaCell c (dq 9)) 0 ∗ semVal (dmaCell c (dq 13)) 0
      ∗ semVal (dmaCell c (dq 2)) 0 ∗ semVal (dmaCell c (dq 6)) 0 ∗ semVal (dmaCell c (dq 10)) 0 ∗ semVal (dmaCell c (dq 14)) 0
      ∗ semVal (dmaCell c (dq 3)) 0 ∗ semVal (dmaCell c (dq 7)) 0 ∗ semVal (dmaCell c (dq 11)) 0 ∗ semVal (dmaCell c (dq 15)) 0
      ∗ semVal (dmaCell c (dq 16)) 0 ∗ semVal (dmaCell c (dq 19)) 0 ∗ semVal (dmaCell c (dq 22)) 0 ∗ semVal (dmaCell c (dq 25)) 0
      ∗ semVal (dmaCell c (dq 17)) 0 ∗ semVal (dmaCell c (dq 20)) 0 ∗ semVal (dmaCell c (dq 23)) 0 ∗ semVal (dmaCell c (dq 26)) 0
      ∗ semVal (dmaCell c (dq 18)) 0 ∗ semVal (dmaCell c (dq 21)) 0 ∗ semVal (dmaCell c (dq 24)) 0 ∗ semVal (dmaCell c (dq 27)) 0) : sProp 𝕄) :=
    four_back (z _ _ _ _) <| four_back (z _ _ _ _) <| four_back (z _ _ _ _) <| four_back (z _ _ _ _) <| four_back (z _ _ _ _) <| four_back (z _ _ _ _) <| z _ _ _ _
  refine BIBase.Entails.trans ?_ h
  iintro ⟨⟨A, B, C, D⟩, H⟩
  isplitl [A]; · iexact A
  isplitl [B]; · iexact B
  isplitl [C]; · iexact C
  isplitl [D]; · iexact D
  iexact H

/-! ## Opening the cells -/

theorem conj_each {I : Type} [Fintype I] {A B : I → sProp 𝕄} :
    iprop(bigSep Finset.univ A ∗ bigSep Finset.univ B) ⊢ bigSep Finset.univ fun i => iprop(A i ∗ B i) :=
  Entails.of_eq (bigSep_sep' _ _ _).symm
theorem split_each {I : Type} [Fintype I] {A B : I → sProp 𝕄} :
    (bigSep Finset.univ fun i => iprop(A i ∗ B i)) ⊢ iprop(bigSep Finset.univ A ∗ bigSep Finset.univ B) :=
  Entails.of_eq (bigSep_sep' _ _ _)

theorem open_one (κ : GSem nD τ sig → ℕ) (c : Dev nD) (k : Fin 28) :
    iprop(records AQ AO κ ∗ (openTok ER (dmaCell c (dq k)) ∗ semVal (dmaCell c (dq k)) 0))
      ⊢ (|={Set.univ}=> iprop(atPos ER (dmaCell c (dq k)) 0 ∅ 0 ∗ reached ER (dmaCell c (dq k)) 0) : sProp 𝕄) := by
  iintro ⟨#HR, Ho, Hv⟩
  ihave #HI := (inv_dma AQ AO κ c (dq k) (Nat.le_add_right 6 k.val)) $$ HR
  iapply (Rounds.cell_open ER (Rd AQ AO) (g := dmaCell c (dq k)) (Set.mem_univ (κ (dmaCell c (dq k)))))
  isplitr; · iexact HI
  isplitl [Ho] <;> iassumption

theorem open_all (κ : GSem nD τ sig → ℕ) (c : Dev nD) :
    iprop(records AQ AO κ ∗ (bigSep Finset.univ fun k : Fin 28 => iprop(openTok ER (dmaCell c (dq k)) ∗ semVal (dmaCell c (dq k)) 0)))
      ⊢ (|={Set.univ}=> bigSep Finset.univ fun k : Fin 28 => iprop(atPos ER (dmaCell c (dq k)) 0 ∅ 0 ∗ reached ER (dmaCell c (dq k)) 0) : sProp 𝕄) :=
  (bigSep_with_persistent fun k _ => open_one AQ AO κ c k).trans (BI.bigSep_fupd _ _)

/-- What device `c` holds of the protocol before its cells are opened, beside the records. -/
def dormant (c : Dev nD) : sProp 𝕄 :=
  iprop(barHold c ∗ (bigSep Finset.univ fun k : Fin 28 => openTok ER (dmaCell c (dq k)))
    ∗ (bigSep Finset.univ fun k : Fin 28 => dutyTok ER (dmaCell (tgt c k) (dq k)) 0 true)
    ∗ (bigSep Finset.univ fun k : Fin 28 => iprop(if isRecv k then crd c (dq k) else emp)))

theorem wake (κ : GSem nD τ sig → ℕ) (c : Dev nD) :
    iprop(records AQ AO κ ∗ dormant c ∗ Pipeline.ownSems0 osem c) ⊢ (|={Set.univ}=> iprop(barHold c ∗ hopsAll c) : sProp 𝕄) := by
  unfold dormant Pipeline.ownSems0
  iintro ⟨#HR, ⟨HB, Ho, Ht, Hc⟩, Hv⟩
  imod (open_all AQ AO κ c) $$ [Ho Hv] with H
  · isplitr; · iexact HR
    iapply conj_each
    isplitl [Ho] <;> iassumption
  imodintro
  isplitl [HB]; · iexact HB
  iapply (hops_intro (F := F) c)
  unfold res
  iapply conj_each
  isplitl [H]; · iexact H
  iapply conj_each
  isplitl [Ht] <;> iassumption

/-! ## The launch's tokens -/

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  have h2 : osem ck.2 = .reg barS := congrArg Prod.snd h
  cases h2

def dmaTok : Dev nD × Fin 28 ↪ GSem nD τ sig × ℕ × Bool :=
  ⟨fun p => (dmaCell p.1 (dq p.2), 0, true), fun _ _ h => scEmb.injective (congrArg Prod.fst h)⟩
def barTok : Dev nD × Bool ↪ GSem nD τ sig × ℕ × Bool :=
  ⟨fun p => (barCell p.1, 0, p.2), fun _ _ h => Prod.ext (barEmb.injective (congrArg Prod.fst h)) (congrArg (fun t : GSem nD τ sig × ℕ × Bool => t.2.2) h)⟩
def toks : Finset (GSem nD τ sig × ℕ × Bool) := Finset.univ.map dmaTok ∪ Finset.univ.map barTok

theorem toks_disjoint : Disjoint (Finset.univ.map dmaTok) (Finset.univ.map barTok) := by
  rw [Finset.disjoint_left]
  rintro g h₁ h₂
  obtain ⟨p, -, rfl⟩ := Finset.mem_map.mp h₁
  obtain ⟨p', -, h⟩ := Finset.mem_map.mp h₂
  have h2 : (SemLoc.reg barS : SemLoc sig) = osem p.2 := congrArg (fun t : GSem nD τ sig × ℕ × Bool => t.1.2) h
  cases h2

/-- Every duty's token, on the device that pays the duty. -/
theorem toks_around : bigSep toks (fun x => (dutyTok ER x.1 x.2.1 x.2.2 : sProp 𝕄))
    ⊢ iprop((bigSep Finset.univ fun c : Dev nD => bigSep Finset.univ fun k : Fin 28 => dutyTok ER (dmaCell (tgt c k) (dq k)) 0 true)
      ∗ (bigSep Finset.univ fun c : Dev nD => iprop(dutyTok ER (barCell (prv c)) 0 true ∗ dutyTok ER (barCell (nxt c)) 0 false))) := by
  unfold toks
  have hb (c : Dev nD) : bigSep Finset.univ (fun b : Bool => (dutyTok ER (barCell c) 0 b : sProp 𝕄))
      = iprop(dutyTok ER (barCell c) 0 true ∗ dutyTok ER (barCell c) 0 false) :=
    bigSep_univ_eq_bigSepL [true, false] (by decide) (by decide) _
  have h1 : bigSep Finset.univ (fun p : Dev nD × Fin 28 => (dutyTok ER (dmaCell p.1 (dq p.2)) 0 true : sProp 𝕄))
      = bigSep Finset.univ fun c : Dev nD => bigSep Finset.univ fun k : Fin 28 => dutyTok ER (dmaCell (tgt c k) (dq k)) 0 true := by
    rw [bigSep_univ_equiv tgtEquiv, bigSep_univ_prod]; rfl
  have h2 : bigSep Finset.univ (fun p : Dev nD × Bool => (dutyTok ER (barCell p.1) 0 p.2 : sProp 𝕄))
      = bigSep Finset.univ fun c : Dev nD => iprop(dutyTok ER (barCell (prv c)) 0 true ∗ dutyTok ER (barCell (nxt c)) 0 false) := by
    rw [bigSep_univ_prod, bigSep_congr fun c _ => hb c, bigSep_sep', bigSep_sep',
      bigSep_univ_equiv ringBack (fun c : Dev nD => (dutyTok ER (barCell c) 0 true : sProp 𝕄)),
      bigSep_univ_equiv ring (fun c : Dev nD => (dutyTok ER (barCell c) 0 false : sProp 𝕄))]
    rfl
  rw [bigSep_union toks_disjoint, bigSep_map, bigSep_map, ← h1, ← h2]
  exact BI.Entails.refl _

/-! ## The launch's credit -/

theorem count_bar : ∀ c : Dev nD, (∑ d : Dev nD, (owList d).count (barCell c)) = 2 := by decide +kernel
theorem count_dma : ∀ (k : Fin 28) (c : Dev nD), (∑ d : Dev nD, (owList d).count (dmaCell c (dq k))) = if isRecv k then 1 else 0 := by decide +kernel

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owe_apply (owList d) (barCell c) (), ← Finset.sum_mul, count_bar]
  rfl

theorem launch_dma (c : Dev nD) (k : Fin 28) (hk : isRecv k = true) :
    tallyOn (dmaCell c (dq k)) (launchCredit (Pipeline.owing O₀) 0 (dmaCell c (dq k)))
      = (tallyAt (dmaCell c (dq k)) () (amountOf (.dma (dq k))) : CellTallies nD τ sig Unit) := by
  unfold tallyAt; refine congrArg _ (Finsupp.ext fun u => ?_); cases u
  rw [Pipeline.launchCredit_owing, Finsupp.single_eq_same, Finset.sum_congr rfl fun d _ => owe_apply (owList d) (dmaCell c (dq k)) (), ← Finset.sum_mul,
    count_dma, hk, if_pos rfl, one_mul]

def osemEmb : Fin 28 ↪ SemLoc sig := ⟨osem, osem_inj⟩

theorem creds (c : Dev nD) :
    (Pipeline.launchCred O₀ c : sProp 𝕄) ⊢ iprop(cred (tallyAt (barCell c) () 2)
      ∗ (bigSep Finset.univ fun k : Fin 28 => iprop(if isRecv k then crd c (dq k) else emp))) := by
  unfold Pipeline.launchCred
  rw [bigSep_univ_at _ (SemLoc.reg barS), launch_bar]
  refine sep_mono_right ?_
  have hs : Finset.univ.map osemEmb ⊆ Finset.univ.erase (SemLoc.reg barS : SemLoc sig) := fun x hx => by
    obtain ⟨k, -, rfl⟩ := Finset.mem_map.mp hx
    exact Finset.mem_erase.mpr ⟨(fun h => by cases h), Finset.mem_univ _⟩
  refine (BI.bigSep_subset hs).trans ?_
  rw [bigSep_map]
  refine bigSep_mono fun k _ => ?_
  split
  · next hk => exact Entails.of_eq (congrArg (fun t => (cred t : sProp 𝕄)) (launch_dma c k hk))
  · show iprop(cred _) ⊢ iprop(emp)
    iintro -; iempintro

end Cert.KRun

end
-- ==== Proof.Windows.lean ====
/-
# The kernel's windows

What the windows hold before the kernel's one point and what it leaves in them: each window is a whole array.
-/
module

public import proofs.«01_k».proof.Proof.Cells
public import proofs.«01_k».proof.Proof.Gen.KernelIdeal.Points
public import Idealize.ShloMosaic.Lib.Pipeline.FrameBody

@[expose] public section

noncomputable section

namespace Cert.KRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ UU ℕ

variable (m : (ℓ : Loc nD τ sig) → Buf (Elt F) ℓ)

/-! ## What the arrays hold when the region is entered -/

/-- Every device's columns of the query matrix, its rows of the output matrix. -/
def wqAt (s : Dev nD) : Vec F S768x512 .bf16 := V1 m s main_arg1
def woAt (s : Dev nD) : Vec F S512x768 .bf16 := V1 m s main_arg4
/-- Device `c`'s rows, keys and values. -/
def xAt (c : Dev nD) : (cc0_stg0_0 : Ref sig .tc).ty.Contents (Elt F) := V1 m c main_v19
def ktAt (c : Dev nD) : (cc0_stg3_0 : Ref sig .tc).ty.Contents (Elt F) := V1 m c main_v16
def vtAt (c : Dev nD) : (cc0_stg4_0 : Ref sig .tc).ty.Contents (Elt F) := V1 m c main_v18
/-- What the kernel leaves. -/
def outAt (c : Dev nD) : (cc0_stg5_0 : Ref sig .tc).ty.Contents (Elt F) := outAll (wqAt m) (woAt m) c (xAt m c) (ktAt m c) (vtAt m c)
/-- The buffers after the region. -/
def V₂ (c : Dev nD) : Valuation τ sig (Elt F) := Function.update (V1 m c) main_v20 (outAt m c)

/-! ## The proof data -/

/-- The four buffers no window stages. -/
def scratch (c : Dev nD) : sProp 𝕄 :=
  iprop((∃ f, pt c cc0_scratch0 f) ∗ (∃ f, pt c cc0_scratch1 f) ∗ (∃ f, pt c cc0_scratch2 f) ∗ (∃ f, pt c cc0_scratch3 f))
theorem scratch_eq (c : Dev nD) :
    (Pipeline.scopedRest (Ix := Unit) (Name := ℕ) (U := UU) (Lvl := ℕ) (Val := Elt F) spec0 c : sProp 𝕄) = scratch c := scopedRest0_eq c

/-- What the body is entered with of the protocol. -/
def Xk (c : Dev nD) : sProp 𝕄 := iprop((∃ κ, records (wqAt m) (woAt m) κ) ∗ (barHold c ∗ hopsAll c) ∗ levAts L lv)
def zeros (c : Dev nD) : sProp 𝕄 := iprop((zeroR c 0 ∗ zeroR c 1 ∗ zeroR c 2 ∗ zeroR c 3) ∗ (zeroL c 0 ∗ zeroL c 1 ∗ zeroL c 2))

def dat0 (c : Dev nD) : Dat τ (Elt F) Unit ℕ UU ℕ cfg0 c where
  A w := V1 m c (Proc.devRef .tc (Pipeline.arrRef spec0 w))
  after w _ := match w with
    | 0 => xAt m c
    | 1 => wqAt m c
    | 2 => woAt m c
    | 3 => ktAt m c
    | 4 => vtAt m c
    | 5 => outAt m c
  Φ t := if t.val = 0 then iprop(Xk m c ∗ scratch c ∗ ∃ r, prngReg c r) else iprop(semVal (barCell c) 0 ∗ zeros c ∗ scratch c ∗ ∃ r, prngReg c r)
  q _ := fullShare
  owed t := if t.val = 0 then O₀ c else 0

def pdats : (p : Fin 1) → (c : Dev nD) → Dat τ (Elt F) Unit ℕ UU ℕ (Pipeline.pin (pcfgs (F := F)) adm p) c := fun | 0 => dat0 m

theorem N0 : cfg0.N = 1 := N_0
theorem owed_first (c : Dev nD) : (dat0 m c).owed t0_0.castSucc = O₀ c := by
  show (if (t0_0.castSucc : Fin (cfg0.N + 1)).val = 0 then O₀ c else 0) = O₀ c
  exact if_pos rfl
theorem owed_last (c : Dev nD) : (dat0 m c).owed t0_0.succ = owe [] := by
  show (if (t0_0.succ : Fin (cfg0.N + 1)).val = 0 then O₀ c else 0) = 0
  exact if_neg (by decide)

theorem owesAt_intro (c : Dev nD) (t : Fin (cfg0.N + 1)) (O : CellTallies nD τ sig Unit) (h0 : (dat0 m c).owed t = O) (W : Waits sig Unit) :
    (owes (c : Thread nD τ) O W : sProp 𝕄) ⊢ (dat0 m c).owesAt () t := by
  unfold Dat.owesAt Pipeline.owesWithin Dat.bound; rw [h0]
  iintro HO; iexists W; isplitr; · ipureintro; exact fun _ _ => Or.inl trivial
  iexact HO
theorem owesAt_elim (c : Dev nD) (t : Fin (cfg0.N + 1)) (O : CellTallies nD τ sig Unit) (h0 : (dat0 m c).owed t = O) :
    ((dat0 m c).owesAt () t : sProp 𝕄) ⊢ iprop(∃ W, owes (c : Thread nD τ) O W) := by
  unfold Dat.owesAt Pipeline.owesWithin; rw [h0]
  iintro ⟨%W, -, HO⟩; iexists W; iexact HO

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = pt c b X := by
  have e : (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
    unfold owns; simp only [Memref.view_whole, View.read_whole, View.set_whole]
  rw [e]
  refine BI.equiv_iff.mp ⟨?_, ?_⟩
  · show iprop(∃ f : Buf (Elt F) (((c : Dev nD) : Thread nD τ).loc b), ⌜f = X⌝ ∗ (((c : Thread nD τ).loc b) ↦{fullShare} f)) ⊢ (((c : Thread nD τ).loc b) ↦{fullShare} X : sProp 𝕄)
    iintro ⟨%f, %hf, H⟩
    subst hf
    iexact H
  · show (((c : Thread nD τ).loc b) ↦{fullShare} X : sProp 𝕄) ⊢ iprop(∃ f : Buf (Elt F) (((c : Dev nD) : Thread nD τ).loc b), ⌜f = X⌝ ∗ (((c : Thread nD τ).loc b) ↦{fullShare} f))
    iintro H
    iexists X
    isplitr; · ipureintro; rfl
    iexact H

theorem moved_all (w : Fin 6) (j : (win0 w).block.Idx) : (win0 w).moved (grid0.coords t0_0) j = true := by
  revert j
  fin_cases w <;> intro j <;> exact ((win0 _).moved_iff _ j).mpr fun a => (j a).isLt

/-- A whole array's only block starts at its beginning. -/
theorem block_start {n k : ℕ} : 0 * n + 1 * k = k := by omega

theorem before_0 (c : Dev nD) (d) : (dat0 m c).before 0 t0_0 d = xAt m c := by
  unfold Dat.before; rw [if_pos (fetch0_0 t0_0)]
  funext j
  unfold Dat.fetched Window.fill
  rw [dif_pos (moved_all 0 j)]
  exact congrArg (V1 m c main_v19) (funext fun a => Fin.ext block_start)
theorem before_1 (c : Dev nD) (d) : (dat0 m c).before 1 t0_0 d = wqAt m c := by
  unfold Dat.before; rw [if_pos (fetch0_1 t0_0)]
  funext j
  unfold Dat.fetched Window.fill
  rw [dif_pos (moved_all 1 j)]
  exact congrArg (V1 m c main_arg1) (funext fun a => Fin.ext block_start)
theorem before_2 (c : Dev nD) (d) : (dat0 m c).before 2 t0_0 d = woAt m c := by
  unfold Dat.before; rw [if_pos (fetch0_2 t0_0)]
  funext j
  unfold Dat.fetched Window.fill
  rw [dif_pos (moved_all 2 j)]
  exact congrArg (V1 m c main_arg4) (funext fun a => Fin.ext block_start)
theorem before_3 (c : Dev nD) (d) : (dat0 m c).before 3 t0_0 d = ktAt m c := by
  unfold Dat.before; rw [if_pos (fetch0_3 t0_0)]
  funext j
  unfold Dat.fetched Window.fill
  rw [dif_pos (moved_all 3 j)]
  exact congrArg (V1 m c main_v16) (funext fun a => Fin.ext block_start)
theorem before_4 (c : Dev nD) (d) : (dat0 m c).before 4 t0_0 d = vtAt m c := by
  unfold Dat.before; rw [if_pos (fetch0_4 t0_0)]
  funext j
  unfold Dat.fetched Window.fill
  rw [dif_pos (moved_all 4 j)]
  exact congrArg (V1 m c main_v18) (funext fun a => Fin.ext block_start)

theorem V₂_ne (c : Dev nD) (r : Ref sig .tc) (h : r ≠ main_v20) : V₂ m c r = V1 m c r := by
  unfold V₂
  exact Function.update_of_ne (StableHlo.devRef_ne_of_ne h) _ _
theorem V₂_out (c : Dev nD) : V₂ m c main_v20 = outAt m c := by
  unfold V₂; exact Function.update_self _ _ _

theorem arr_out (c : Dev nD) : (dat0 m c).arrAt 5 cfg0.N = outAt m c := by
  rw [show cfg0.N = t0_0.val + 1 from N0, (dat0 m c).arrAt_succ (5 : Fin 6) t0_0, if_pos (flush0_5 t0_0)]
  funext j
  have e : ((cfg0.win 5).blk t0_0).view.emb (fun a => ⟨(j a).val, (j a).isLt⟩) = j := funext fun a => Fin.ext block_start
  refine (congrArg _ e.symm).trans ?_
  exact View.write_emb_of_mem _ _ (Finset.mem_univ _)

/-- What the region leaves in its arrays. -/
theorem arr_last (c : Dev nD) : ∀ w : Fin 6, (dat0 m c).arrAt w cfg0.N = V₂ m c (Proc.devRef .tc (Pipeline.arrRef spec0 w))
  | 0 => ((dat0 m c).arrAt_in (0 : Fin 6) rfl _).trans (V₂_ne m c main_v19 (by decide)).symm
  | 1 => ((dat0 m c).arrAt_in (1 : Fin 6) rfl _).trans (V₂_ne m c main_arg1 (by decide)).symm
  | 2 => ((dat0 m c).arrAt_in (2 : Fin 6) rfl _).trans (V₂_ne m c main_arg4 (by decide)).symm
  | 3 => ((dat0 m c).arrAt_in (3 : Fin 6) rfl _).trans (V₂_ne m c main_v16 (by decide)).symm
  | 4 => ((dat0 m c).arrAt_in (4 : Fin 6) rfl _).trans (V₂_ne m c main_v18 (by decide)).symm
  | 5 => (arr_out m c).trans (V₂_out m c).symm

end Cert.KRun

end
-- ==== Proof.Region.lean ====
/-
# The kernel's region

The body's run at the kernel's one point, and the region as an item of the program.
-/
module

public import proofs.«01_k».proof.Proof.Windows

@[expose] public section

noncomputable section

namespace Cert.KRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ UU ℕ

variable (m : (ℓ : Loc nD τ sig) → Buf (Elt F) ℓ)

/-! ## The body -/

/-- A staging buffer held at contents. -/
abbrev st (c : Dev nD) (b : Ref sig .tc) (X : b.ty.Contents (Elt F)) : sProp 𝕄 := owns (c : Thread nD τ) (Memref.whole b) fullShare X

def bodyPre (c : Dev nD) : sProp 𝕄 :=
  iprop((Xk m c ∗ scratch c ∗ ∃ r, prngReg c r) ∗ (dat0 m c).owesAt () t0_0.castSucc
    ∗ (∃ d, st c cc0_stg0_0 ((dat0 m c).before 0 t0_0 d)) ∗ (∃ d, st c cc0_stg1_0 ((dat0 m c).before 1 t0_0 d))
    ∗ (∃ d, st c cc0_stg2_0 ((dat0 m c).before 2 t0_0 d)) ∗ (∃ d, st c cc0_stg3_0 ((dat0 m c).before 3 t0_0 d))
    ∗ (∃ d, st c cc0_stg4_0 ((dat0 m c).before 4 t0_0 d)) ∗ (∃ d, st c cc0_stg5_0 ((dat0 m c).before 5 t0_0 d)))
def bodyPost (c : Dev nD) : sProp 𝕄 :=
  iprop((semVal (barCell c) 0 ∗ zeros c ∗ scratch c ∗ ∃ r, prngReg c r) ∗ (dat0 m c).owesAt () t0_0.succ
    ∗ st c cc0_stg0_0 (xAt m c) ∗ st c cc0_stg1_0 (wqAt m c) ∗ st c cc0_stg2_0 (woAt m c) ∗ st c cc0_stg3_0 (ktAt m c)
    ∗ st c cc0_stg4_0 (vtAt m c) ∗ st c cc0_stg5_0 (outAt m c))

theorem body_wp (c : Dev nD) : bodyPre m c ⊢ wpc c (cc0_body (F := F) xM (Memref.isWhole_whole _) wqM (Memref.isWhole_whole _) woM (Memref.isWhole_whole _)
    kM (Memref.isWhole_whole _) vM (Memref.isWhole_whole _) oM (Memref.isWhole_whole _) wqAll (Memref.isWhole_whole _)
    woAll (Memref.isWhole_whole _) qM (Memref.isWhole_whole _) cM (Memref.isWhole_whole _)
    cc0_scratch4 cc0_scratch5 cc0_scratch6 cc0_scratch7) (fun _ => bodyPost m c) := by
  rw [body_eq]
  unfold bodyPre bodyPost Xk scratch zeros hopsAll
  simp only [before_0, before_1, before_2, before_3, before_4, st, owns_whole_eq]
  iintro ⟨⟨⟨⟨%κ, #HR⟩, ⟨HB, HRs, HLs⟩, #Hlev⟩, ⟨S0, S1, S2, S3⟩, Hp⟩, HO, ⟨%_, W0⟩, ⟨%_, W1⟩, ⟨%_, W2⟩, ⟨%_, W3⟩, ⟨%_, W4⟩, ⟨%d, W5⟩⟩
  iapply (structured_wp (wqAt m) (woAt m) κ c (xAt m c) (ktAt m c) (vtAt m c) ((dat0 m c).before 5 t0_0 d) (fun _ => _))
  isplitr; · iexact HR
  isplitr; · iexact Hlev
  isplitl [HB HRs HLs S0 S1 HO]
  · unfold before
    isplitl [HB]; · iexact HB
    isplitl [HRs]; · iexact HRs
    isplitl [HLs]; · iexact HLs
    isplitl [S0]; · iexact S0
    isplitl [S1]; · iexact S1
    unfold ow
    iapply (owesAt_elim m c _ (O₀ c) (owed_first m c)) $$ HO
  isplitl [W1]; · iexact W1
  isplitl [W2]; · iexact W2
  isplitl [W0 W3 W4 S2 S3 W5]
  · unfold work
    isplitl [W0]; · iexact W0
    isplitl [W3]; · iexact W3
    isplitl [W4]; · iexact W4
    isplitl [S2]; · iexact S2
    isplitl [S3]; · iexact S3
    iexact W5
  unfold after work ow
  iintro ⟨⟨HB, HRs, HLs, S0, S1, ⟨%W, HO⟩⟩, W1, W2, W0, W3, W4, S2, S3, W5⟩
  isplitr [HO W0 W1 W2 W3 W4 W5]
  · isplitl [HB]; · iexact HB
    isplitl [HRs HLs]; · isplitl [HRs] <;> iassumption
    isplitl [S0 S1 S2 S3]
    · isplitl [S0]; · iexact S0
      isplitl [S1]; · iexact S1
      isplitl [S2] <;> iassumption
    iexact Hp
  isplitl [HO]; · iapply (owesAt_intro m c _ (owe []) (owed_last m c) W) $$ HO
  isplitl [W0]; · iexact W0
  isplitl [W1]; · iexact W1
  isplitl [W2]; · iexact W2
  isplitl [W3]; · iexact W3
  isplitl [W4]; · iexact W4
  iexact W5

/-- What the pipeline calls at the point. -/
theorem call_eq : (defs₀ (F := F)) .tc cfg0.body (cfg0.bodyArgs t0_0 (cfg0.slots t0_0))
    = cc0_body (F := F) xM (Memref.isWhole_whole _) wqM (Memref.isWhole_whole _) woM (Memref.isWhole_whole _)
    kM (Memref.isWhole_whole _) vM (Memref.isWhole_whole _) oM (Memref.isWhole_whole _) wqAll (Memref.isWhole_whole _)
    woAll (Memref.isWhole_whole _) qM (Memref.isWhole_whole _) cM (Memref.isWhole_whole _)
    cc0_scratch4 cc0_scratch5 cc0_scratch6 cc0_scratch7 :=
  (show _ = bodyAt0 (F := F) t0_0 from rfl).trans rfl

set_option maxRecDepth 16384 in
theorem body_obligation (c : Dev nD) : BodyObligation (dat0 (F := F) m c) (defs₀ (F := F)) 𝒱₀ () Set.univ := fun t => by
  obtain rfl := fin_N0 t
  rw [bigSep_W0, bigSep_W0, call_eq]
  have e1 := body_wp m c
  show bodyPre m c ⊢ _
  refine BIBase.Entails.trans e1 ?_
  unfold wpc
  apply wp_mono
  intro r
  unfold bodyPost
  have hi : ∀ (w : Fin 6) i, cfg0.idle w i = false := fun _ _ => rfl
  simp only [hi]
  refine sep_mono (BI.Entails.refl _) (sep_mono (BI.Entails.refl _) ?_)
  refine sep_mono (BI.Entails.refl _) (sep_mono (BI.Entails.refl _) ?_)
  refine sep_mono (BI.Entails.refl _) (sep_mono (BI.Entails.refl _) ?_)
  exact sep_mono (BI.Entails.refl _) (BI.Entails.refl _)

/-! ## The region -/

def Tk (c : Dev nD) : sProp 𝕄 := iprop((∃ κ, records (wqAt m) (woAt m) κ) ∗ dormant c)

theorem hopen (c : Dev nD) : iprop(Tk m c ∗ Pipeline.ownSems0 osem c ∗ levAts L lv) ⊢ (|={Set.univ}=> Xk m c : sProp 𝕄) := by
  unfold Tk Xk
  iintro ⟨⟨⟨%κ, #HR⟩, Hd⟩, Hv, #Hlev⟩
  imod (wake (wqAt m) (woAt m) κ c) $$ [Hd Hv] with H
  · isplitr; · iexact HR
    isplitl [Hd] <;> iassumption
  imodintro
  isplitr; · iexists κ; iexact HR
  isplitl [H]; · iexact H
  iexact Hlev

theorem hin (c : Dev nD) : iprop(Pipeline.scopedRest (Pipeline.pin (pcfgs (F := F)) adm 0).spec c ∗ (∃ r, prngReg c r)
      ∗ StableHlo.held (c.tc : Thread nD τ) ∅ (V1 m c) ∗ Xk m c) ⊢ ((pdats m 0 c).Φ 0 : sProp 𝕄) := by
  rw [show ((pdats m 0 c).Φ 0 : sProp 𝕄) = iprop(Xk m c ∗ scratch c ∗ ∃ r, prngReg c r) from rfl,
    show (Pipeline.scopedRest (Ix := Unit) (Name := ℕ) (U := UU) (Lvl := ℕ) (Val := Elt F) (Pipeline.pin (pcfgs (F := F)) adm 0).spec c : sProp 𝕄) = scratch c from scratch_eq c]
  iintro ⟨Hs, Hp, -, HX⟩
  isplitl [HX]; · iexact HX
  isplitl [Hs] <;> iassumption

theorem hout (c : Dev nD) : ((pdats m 0 c).Φ (Fin.last (Pipeline.pin (pcfgs (F := F)) adm 0).N) : sProp 𝕄)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ semVal (barCell c) 0) := by
  rw [show ((pdats m 0 c).Φ (Fin.last _) : sProp 𝕄) = iprop(semVal (barCell c) 0 ∗ zeros c ∗ scratch c ∗ ∃ r, prngReg c r) from rfl,
    show (Pipeline.scopedRest (Ix := Unit) (Name := ℕ) (U := UU) (Lvl := ℕ) (Val := Elt F) (Pipeline.pin (pcfgs (F := F)) adm 0).spec c : sProp 𝕄) = scratch c from scratch_eq c,
    show (StableHlo.held (c.tc : Thread nD τ) ∅ (V₂ m c) : sProp 𝕄) = BI.emp from BI.bigSep_empty]
  unfold zeros
  iintro ⟨Hb, Hz, Hs, Hp⟩
  isplitl [Hs]; · iexact Hs
  isplitl [Hp]; · iexact Hp
  isplitr; · iempintro
  isplitl [Hz]; · iapply (sems_back (F := F) c) $$ Hz
  iexact Hb

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem share_eq (c : Dev nD) (w : Fin cfg0.W) : (dat0 m c).share w = fullShare := by unfold Dat.share; split <;> rfl

theorem lv_owed (c : Dev nD) : ∀ g ∈ owList c, g.1.2 = .tc ∧ 0 < lvOf g.2 := above c 0 (.dma 0) (by decide)

theorem cutD (c : Dev nD) (t : Fin (cfg0.N + 1)) (g : GSem nD τ sig) (i : Unit) (h : 0 < (dat0 (F := F) m c).owed t g i) :
    i ∈ L g ∧ (0 : ℕ) < lv g i := by
  have e : (dat0 (F := F) m c).owed t = if t.val = 0 then O₀ c else 0 := rfl
  rw [e] at h
  split at h
  · obtain ⟨h1, h2⟩ := lv_owed c g (owe_pos h)
    exact ⟨by unfold L; rw [if_pos h1]; exact Finset.mem_singleton_self _, h2⟩
  · exact absurd h (Nat.lt_irrefl 0)

/-- The buffers the region passes by. -/
abbrev others : Finset (DevRef τ sig) := Pipeline.ucRefs τ sig \ Pipeline.arrRefs (τ := τ) spec0

theorem out_mem : (Proc.devRef .tc main_v20 : DevRef τ sig) ∈ Pipeline.arrRefs (τ := τ) spec0 :=
  Finset.mem_map.mpr ⟨main_v20, Finset.mem_image.mpr ⟨(5 : Fin 6), Finset.mem_univ _, rfl⟩, rfl⟩

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ others (Finset.empty_subset _) kitP rfl (fun c => (body_obligation m c).loose)
    (fun _ => 0) O₀ (fun c => (owed_first m c).trans (zero_add _).symm) (owed_last m) (fun _ => rfl) (share_eq m)
    (V1 m) (V₂ m) (fun c b hb => by
      unfold V₂
      refine Function.update_of_ne (fun e => ?_) _ _
      subst e
      exact (Finset.mem_sdiff.mp (Finset.mem_sdiff.mp hb).1).2 out_mem)
    (Tk m) (fun c => semVal (barCell c) 0) (Xk m) (fun c => semVal (barCell c) 0) (hopen m) (hin m) (hout m)
    (fun c => by iintro H; imodintro; iexact H)
    (fun _ => 0)
    ⟨fun c w s => by show () ∈ L _; rw [L_tc]; exact Finset.mem_singleton_self _, fun c w s => (by decide : ∀ (w : Fin 6) (s : Fin (win0 w).nbuf), lvOf (.dma ((win0 w).sem s)) ≤ 0) w s, fun c t g i h => cutD m c t g i h⟩
    (fun _ => iprop(emp))
    (fun _ _ => rfl) (arr_last m)

end Cert.KRun

end
-- ==== Proof.Launch.lean ====
/-
# The run

The launch hands every device its share of the protocol's ghost state; the host operations, then the region, then
what every final state holds: the result in its buffer, every argument unchanged, every counter at zero.
-/
module

public import proofs.«01_k».proof.Proof.Region
public import Idealize.ShloMosaic.Lib.Quiescent

@[expose] public section

noncomputable section

namespace Cert.KRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The thread states -/

/-- What rides along beside the buffers: before the region, and after it. -/
def ride (c : Dev nD) : sProp 𝕄 := iprop((∃ r, prngReg c r) ∗ Tk m c ∗ ∃ W, owes (c : Thread nD τ) (0 + O₀ c) W)
def rideEnd (c : Dev nD) : sProp 𝕄 := iprop(semVal (barCell c) 0 ∗ ∃ W, owes (c : Thread nD τ) (0 : CellTallies nD τ sig Unit) W)
def E : Fin 2 → Dev nD → sProp 𝕄 := fun | 0 => ride m | 1 => rideEnd

theorem arr_sub : Pipeline.arrRefs (τ := τ) spec0 ⊆ Pipeline.ucRefs τ sig := Pipeline.arrRefs_sub_ucRefs spec0 (by decide)

set_option backward.isDefEq.respectTransparency.types false in
theorem reg_pre (c : Dev nD) : iprop(StableHlo.held (c : Thread nD τ) (Pipeline.ucRefs τ sig) (V1 m c) ∗ ride m c) ⊢ (reg m).pre c := by
  show _ ⊢ iprop(StableHlo.held (c : Thread nD τ) (Pipeline.arrRefs (τ := τ) spec0) (V1 m c) ∗ (∃ r, prngReg c r)
    ∗ (StableHlo.held (c : Thread nD τ) others (V1 m c) ∗ emp) ∗ Tk m c ∗ ∃ W, owes (c : Thread nD τ) (0 + O₀ c) W)
  rw [StableHlo.held_sub_split (c : Thread nD τ) arr_sub (V1 m c)]
  unfold ride
  iintro ⟨⟨Ha, Ho⟩, Hp, HT, HO⟩
  isplitl [Ha]; · iexact Ha
  isplitl [Hp]; · iexact Hp
  isplitl [Ho]
  · isplitl [Ho]; · iexact Ho
    iempintro
  isplitl [HT] <;> iassumption

set_option backward.isDefEq.respectTransparency.types false in
theorem reg_post (c : Dev nD) : (reg m).post c ⊢ iprop(StableHlo.held (c : Thread nD τ) (Pipeline.ucRefs τ sig) (V₂ m c) ∗ rideEnd c) := by
  show iprop(StableHlo.held (c : Thread nD τ) (Pipeline.arrRefs (τ := τ) spec0) (V₂ m c) ∗ (∃ r, prngReg c r)
    ∗ (StableHlo.held (c : Thread nD τ) others (V₂ m c) ∗ emp) ∗ semVal (barCell c) 0 ∗ ∃ W, owes (c : Thread nD τ) (0 : CellTallies nD τ sig Unit) W) ⊢ _
  rw [StableHlo.held_sub_split (c : Thread nD τ) arr_sub (V₂ m c)]
  unfold rideEnd
  iintro ⟨Ha, -, ⟨Ho, -⟩, Hb, HO⟩
  isplitl [Ha Ho]
  · isplitl [Ha] <;> iassumption
  isplitl [Hb] <;> iassumption

/-! ## The launch -/

def protoLaunch : UB := launchOf barCells scCells toks
def u₀ : UU := (initOf (Pipeline.cells (Pipeline.pin (pcfgs (F := F)) adm) cellOf_inj) (Pipeline.launchToks (Pipeline.pin (pcfgs (F := F)) adm) cellOf_inj), protoLaunch)

/-- The protocol's launch element rests on the first device until every device's share is made at once. -/
def G (c : Dev nD) : sProp 𝕄 := if c = 0 then BI.own (ER protoLaunch) else iprop(emp)
theorem G_all : bigSep Finset.univ (G (F := F)) = BI.own (ER protoLaunch) := by
  have h : ∀ c ∈ (Finset.univ : Finset (Dev nD)).erase 0, G (F := F) c = BI.emp := fun c hc => if_neg (Finset.ne_of_mem_erase hc)
  rw [bigSep_univ_at _ (0 : Dev nD), bigSep_congr h, BI.bigSep_emp_const, show G (F := F) 0 = BI.own (ER protoLaunch) from if_pos rfl]
  exact BI.equiv_iff.mp sep_emp

theorem unscoped_bar : (Finset.univ.filter fun sm : SemLoc sig => ¬ sm.isScoped .tc) = {SemLoc.reg barS} := by decide
theorem sems_bar (c : Dev nD) : (unscopedSems0 c : sProp 𝕄) = semVal (barCell c) 0 := by
  unfold unscopedSems0
  rw [unscoped_bar, BI.bigSep_singleton]

/-- A device's share of what does not belong to the protocol, and the credits. -/
def plain (c : Dev nD) : sProp 𝕄 :=
  iprop(StableHlo.held (c : Thread nD τ) (Pipeline.ucRefs τ sig) (V0 m c) ∗ (∃ r, prngReg c r) ∗ (∃ W, owes (c : Thread nD τ) (0 + O₀ c) W)
    ∗ cred (tallyAt (barCell c) () 2) ∗ (bigSep Finset.univ fun k : Fin 28 => iprop(if isRecv k then crd c (dq k) else emp)))
/-- A device's share of the protocol's launch element. -/
def share (c : Dev nD) : sProp 𝕄 :=
  iprop(atPos ER (barCell c) 0 ∅ 0 ∗ (bigSep Finset.univ fun k : Fin 28 => openTok ER (dmaCell c (dq k)))
    ∗ (bigSep Finset.univ fun k : Fin 28 => dutyTok ER (dmaCell (tgt c k) (dq k)) 0 true)
    ∗ (dutyTok ER (barCell (prv c)) 0 true ∗ dutyTok ER (barCell (nxt c)) 0 false))

def T₀ (c : Dev nD) : sProp 𝕄 := iprop(StableHlo.held (c : Thread nD τ) (Pipeline.ucRefs τ sig) (V0 m c) ∗ ride m c)

theorem T₀_intro (κ : GSem nD τ sig → ℕ) (c : Dev nD) : iprop(records (wqAt m) (woAt m) κ ∗ (share c ∗ plain m c)) ⊢ T₀ m c := by
  unfold share plain T₀ ride Tk dormant barHold
  iintro ⟨#HR, ⟨Hat, Hop, Hdt, Hb1, Hb2⟩, Hh, Hp, HO, Hcb, Hcs⟩
  isplitl [Hh]; · iexact Hh
  isplitl [Hp]; · iexact Hp
  isplitr [HO]
  · isplitr; · iexists κ; iexact HR
    isplitl [Hat Hcb Hb1 Hb2]
    · isplitl [Hat]; · iexact Hat
      isplitl [Hcb]; · iexact Hcb
      isplitl [Hb1] <;> iassumption
    isplitl [Hop]; · iexact Hop
    isplitl [Hdt] <;> iassumption
  iexact HO

theorem start_one (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(plain m c ∗ (semVal (barCell c) 0 ∗ G c)) : sProp 𝕄) := by
  rw [show (unscopedBufs c (fun b => m ((c : Thread nD τ).loc b)) : sProp 𝕄) = StableHlo.held (c : Thread nD τ) (Pipeline.ucRefs τ sig) (V0 m c) from
    Pipeline.unscopedBufs_held (Ix := Unit) (Name := ℕ) (U := UU) (Lvl := ℕ) c (V0 m c), sems_bar]
  unfold plain
  iintro ⟨Hh, Hv, HO, Hcr, Hp, HG⟩
  ihave Hc := (creds (F := F) c) $$ Hcr
  icases Hc with ⟨Hb, Hcs⟩
  isplitr [Hv HG]
  · isplitl [Hh]; · iexact Hh
    isplitl [Hp]; · iexists (ρ c); iexact Hp
    isplitl [HO]; · iexists ∅; rw [zero_add]; iexact HO
    isplitl [Hb] <;> iassumption
  isplitl [Hv] <;> iassumption

theorem start_all : (bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ G c))
    ⊢ (bigSep Finset.univ fun c : Dev nD => iprop(plain m c ∗ (semVal (barCell c) 0 ∗ G c)) : sProp 𝕄) :=
  bigSep_mono fun c _ => start_one m ρ c

theorem bars_split (Φ : GSem nD τ sig → sProp 𝕄) : bigSep barCells Φ = bigSep Finset.univ fun c : Dev nD => Φ (barCell c) :=
  bigSep_map (s := Finset.univ) barEmb
theorem opens_split : bigSep scCells (fun g => (openTok ER g : sProp 𝕄))
    = bigSep Finset.univ fun c : Dev nD => bigSep Finset.univ fun k : Fin 28 => openTok ER (dmaCell c (dq k)) := by
  rw [bigSep_map, bigSep_univ_prod]
  rfl

theorem init : iprop((bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ G c)) ∗ levAts L lv)
    ⊢ (|={Set.univ}=> bigSep Finset.univ (T₀ m) : sProp 𝕄) := by
  iintro ⟨H, -⟩
  ihave H1 := (start_all m ρ) $$ H
  ihave H2 := split_each $$ H1; icases H2 with ⟨HB, H3⟩
  ihave H4 := split_each $$ H3; icases H4 with ⟨Hv, HG⟩
  ihave Hu := (Entails.of_eq (G_all (F := F))) $$ HG
  imod (Rounds.fund_launch ER (Rd (wqAt m) (woAt m)) disjoint_cells (fun g _ h => h) toks) $$ [Hv Hu] with ⟨%κ, -, #Hinv, #Hr, Hat, Hop, Htok⟩
  · isplitl [Hv]; · iapply (Entails.of_eq (bars_split (F := F) (fun g => semVal g 0)).symm) $$ Hv
    unfold protoLaunch; iexact Hu
  imodintro
  iapply (bigSep_with_persistent (R := records (wqAt m) (woAt m) κ) (Φ := fun c => iprop(share c ∗ plain m c)) fun c _ => T₀_intro m κ c)
  isplitr
  · unfold records
    isplitr; · iexact Hinv
    iexact Hr
  iapply conj_each
  isplitr [HB]
  · unfold share
    iapply conj_each; isplitl [Hat]; · iapply (Entails.of_eq (bars_split (F := F) (fun g => atPos ER g 0 ∅ 0))) $$ Hat
    iapply conj_each; isplitl [Hop]; · iapply (Entails.of_eq (opens_split (F := F))) $$ Hop
    iapply conj_each
    iapply (toks_around (F := F)) $$ Htok
  · iexact HB

/-! ## The run -/

/-- What a final memory holds: the result and the arguments of device `c`. -/
def Ends (c : Dev nD) (s : MemSt nD τ sig (Elt F)) : Prop :=
  s.mem ((c.tc : Thread nD τ).loc main_v20) = outAt m c
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)

theorem kept (c : Dev nD) (r : Ref sig .tc) (h : r ≠ main_v20) (h' : r ∉ hostOps0_W) : V₂ m c r = m ((c.tc : Thread nD τ).loc r) :=
  (V₂_ne m c r h).trans (V1_of m c r h')

theorem unscoped_eq : ∀ sm : SemLoc sig, sm.isScoped .tc = false → sm = .reg barS := by decide

set_option backward.isDefEq.respectTransparency.types false in
/-- From any memory with zero counters, every weakly fair execution on the eight devices terminates, and every final
    state has each device's result, each argument unchanged, and every counter at zero. -/
theorem run_main : θ_run defs (onTc (τ := τ) (main (F := F))) ⟨m, fun _ => 0, ρ⟩ (fun r => (∀ c : Dev nD, Ends m c r.2) ∧ r.2.sem = fun _ => 0) := by
  refine Pipeline.θ_run_regions_kit_dev_sems (pcfgs (F := F)) adm (pdats m) () cellOf_inj EP defs₀ 𝒱₀ L lv m ρ main
    (segs m 𝒱₀ L lv (E m) () (pdats m) (reg m))
    (fun c Q => by
      rewrite [main_chain c, Seg.run_eq_chain,
        show (segs m 𝒱₀ L lv (E m) () (pdats m) (reg m) c).map Seg.prog = [StableHlo.seq (hostOps0 c), Prog.lift (.customCall (Pipeline.entry 0) ())] from rfl]
      dsimp (config := { failIfUnchanged := false }) only
      exact .rfl)
    (fun c => by simp only [segs, Seg.pipes_host, Seg.pipes_region, Seg.pipes_nil]; decide) O₀ L_of_ne G u₀
    (by
      unfold u₀
      iintro Hu
      ihave H := (ownU_pair _ _) $$ Hu
      icases H with ⟨HP, HX⟩
      imodintro
      isplitl [HP]; · iexact HP
      rw [G_all]; iexact HX)
    (T₀ := T₀ m)
    (Tₙ := fun c => iprop(StableHlo.held (c : Thread nD τ) (Pipeline.ucRefs τ sig) (V₂ m c) ∗ semVal (barCell c) 0))
    (hch := fun c => ⟨.rfl, reg_pre m c, (reg_post m c).trans ?_⟩)
    (hinit := init m ρ) (QY := fun c s => Ends m c s ∧ s.sem (barCell c) = 0)
    (hfin := fun c s' => ?_)
    (hQ := fun s h hs => ⟨fun c => (h c).1, sem_eq_zero hs fun c sm hsm => by
      obtain rfl := unscoped_eq sm hsm
      exact (h c).2⟩)
  · unfold rideEnd
    iintro ⟨Hh, Hb, HO⟩
    isplitr [HO]
    · isplitl [Hh] <;> iassumption
    · iexact HO
  · unfold StableHlo.held
    iintro ⟨⟨Hh, Hb⟩, HSI⟩
    icombine HSI Hb gives %hb
    ihave Hr := (pointsTo_read_all (Pipeline.ucRefs τ sig) (fun b => ((c : Thread nD τ).1, b)) (V₂ m c) s') $$ [Hh HSI]
    · isplitl [Hh] <;> iassumption
    icases Hr with ⟨%h, HSI⟩
    imodintro
    isplitr
    · ipureintro
      have rd (r : Ref sig .tc) (hr : r.isScoped = false) :=
        h (Proc.devRef .tc r) (Finset.mem_filter.mpr ⟨StableHlo.devRef_mem_tcRefs r, fun h' => Bool.false_ne_true (hr.symm.trans h')⟩)
      exact ⟨⟨(rd main_v20 (by decide)).trans (V₂_out m c), (rd main_arg0 (by decide)).trans (kept m c main_arg0 (by decide) (by decide)),
        (rd main_arg1 (by decide)).trans (kept m c main_arg1 (by decide) (by decide)), (rd main_arg2 (by decide)).trans (kept m c main_arg2 (by decide) (by decide)),
        (rd main_arg3 (by decide)).trans (kept m c main_arg3 (by decide) (by decide)), (rd main_arg4 (by decide)).trans (kept m c main_arg4 (by decide) (by decide))⟩,
        by simpa using hb⟩
    · iexact HSI

end Cert.KRun

end
-- ==== Proof.KernelFrame.lean ====
/-
# The kernel at bit patterns

The kernel and its idealization differ in one constant, which the idealization names. Read at bit patterns with the
name standing for the constant's own pattern, the idealization is the kernel, so its run is the kernel's.
-/
module

public import proofs.«01_k».proof.Proof.Launch
public import proofs.«01_k».proof.Proof.Gen.Kernel
public import Idealize.ShloMosaic.PureOps.BitExact

@[expose] public section

noncomputable section

namespace Cert.KRun

open Idealize.ShloMosaic
open Idealize.SL.Sem

/-- A name read as the pattern it replaced. -/
local instance namedBits : Named Bits where
  named _ _ {φ} b := Scalar.ofBits φ b

theorem same_body : Cert.Kernel.cc0_body (F := Bits) = Cert.KernelIdeal.cc0_body (F := Bits) := rfl
theorem same_kernels : Cert.Kernel.defs₀ (F := Bits) = Cert.KernelIdeal.defs₀ (F := Bits) := by
  unfold Cert.Kernel.defs₀ Cert.KernelIdeal.defs₀
  refine congrArg Defs.onTc (funext fun l => funext fun x => ?_)
  obtain ⟨_ | n, h⟩ := l
  · obtain ⟨t, s⟩ := x
    rfl
  · exact absurd h (Nat.not_lt.2 (Nat.le_add_left _ _))
theorem same_defs : Cert.Kernel.defs (F := Bits) = Cert.KernelIdeal.defs (F := Bits) :=
  congrArg (Pipeline.defs (Cert.KernelIdeal.pcfgs (F := Bits))) same_kernels
theorem same_main : Cert.Kernel.main (F := Bits) = Cert.KernelIdeal.main (F := Bits) := rfl

theorem kernel_frame (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩ (fun r =>
      (∀ c : Dev Cert.Kernel.nD, Ends (F := Bits) m c r.2) ∧ r.2.sem = fun _ => 0) := by
  rw [same_defs, same_main]
  exact run_main (F := Bits) m ρ

end Cert.KRun

end
-- ==== Proof.Soft.lean ====
/-
# One row of attention over the extended reals

Weights divided by their sum do not depend on the number subtracted from every score, and the division may be
done before or after the values are mixed.
-/
module

public import Idealize.ShloMosaic.PureOps.Ideal
public import Idealize.ShloMosaic.Lib.Pointwise

@[expose] public section

noncomputable section

namespace Cert.KVal

open Idealize.ShloMosaic

/-- A score that the mask lets through, minus infinity otherwise. -/
def masked {n : ℕ} (p : Fin n → Prop) [DecidablePred p] (s : Fin n → ℝ) (j : Fin n) : EReal := if p j then (s j : EReal) else ⊥

/-- The weight of a masked score, as a real. -/
def weight {n : ℕ} (p : Fin n → Prop) [DecidablePred p] (s : Fin n → ℝ) (j : Fin n) : ℝ := if p j then Real.exp (s j) else 0

section Row
variable {n : ℕ} (p : Fin n → Prop) [DecidablePred p] (s : Fin n → ℝ)

theorem sum_coe {ι : Type*} (S : Finset ι) (f : ι → ℝ) : ∑ j ∈ S, ((f j : ℝ) : EReal) = ((∑ j ∈ S, f j : ℝ) : EReal) := by
  classical
  induction S using Finset.induction_on with
  | empty => simp
  | insert a S h ih => rw [Finset.sum_insert h, Finset.sum_insert h, ih, EReal.coe_add]

/-- A factor that is a nonnegative real moves into a sum of extended reals. -/
theorem sum_mul_real {ι : Type*} (S : Finset ι) (f : ι → EReal) (r : ℝ) (hr : 0 ≤ r) :
    (∑ j ∈ S, f j) * (r : EReal) = ∑ j ∈ S, f j * (r : EReal) := by
  classical
  induction S using Finset.induction_on with
  | empty => simp
  | insert a S h ih =>
    rw [Finset.sum_insert h, Finset.sum_insert h, ← ih, mul_comm, mul_comm (f a), mul_comm (∑ j ∈ S, f j)]
    exact EReal.left_distrib_of_nonneg_of_ne_top (EReal.coe_nonneg.mpr hr) (EReal.coe_ne_top r) _ _

theorem exp_masked (j : Fin n) : Ideal.exp (masked p s j) = ((weight p s j : ℝ) : EReal) := by
  unfold masked weight
  split
  · exact Ideal.exp_coe _
  · exact Ideal.exp_bot

/-- The greatest masked score is a real when the mask lets one through. -/
theorem max_real (hp : ∃ j, p j) : ∃ μ : ℝ, Finset.univ.fold max ⊥ (masked p s) = (μ : EReal) := by
  have e : Finset.univ.fold max ⊥ (masked p s) = Finset.univ.sup (masked p s) := rfl
  obtain ⟨j, hj⟩ := hp
  have hlow : (⊥ : EReal) < Finset.univ.sup (masked p s) := by
    refine lt_of_lt_of_le ?_ (Finset.le_sup (Finset.mem_univ j))
    rw [masked, if_pos hj]
    exact EReal.bot_lt_coe _
  have hhigh : Finset.univ.sup (masked p s) < ⊤ := by
    rw [Finset.sup_lt_iff bot_lt_top]
    intro k _
    unfold masked
    split
    · exact EReal.coe_lt_top _
    · exact bot_lt_top
  exact ⟨_, e.trans (EReal.coe_toReal hhigh.ne hlow.ne').symm⟩

theorem exp_masked_sub (μ : ℝ) (j : Fin n) :
    Ideal.exp (masked p s j - (μ : EReal)) = ((weight p s j * Real.exp (-μ) : ℝ) : EReal) := by
  unfold masked weight
  split
  · rw [← EReal.coe_sub, Ideal.exp_coe, sub_eq_add_neg, Real.exp_add]
  · rw [EReal.bot_sub, Ideal.exp_bot, zero_mul, EReal.coe_zero]

theorem weight_nonneg (j : Fin n) : 0 ≤ weight p s j := by
  unfold weight
  split
  · exact (Real.exp_pos _).le
  · exact le_refl _

theorem weights_pos (hp : ∃ j, p j) : 0 < ∑ j, weight p s j := by
  obtain ⟨j, hj⟩ := hp
  refine lt_of_lt_of_le ?_ (Finset.single_le_sum (fun k _ => weight_nonneg p s k) (Finset.mem_univ j))
  rw [weight, if_pos hj]
  exact Real.exp_pos _

/-- The mix of the values, divided at the end, is the mix by the weights that are divided first and whose scores had the
    greatest score subtracted. -/
theorem row_eq (hp : ∃ j, p j) (v : Fin n → EReal) :
    (∑ j, Ideal.exp (masked p s j) * v j) * Ideal.div 1 (∑ j, Ideal.exp (masked p s j))
      = ∑ j, v j * Ideal.div (Ideal.exp (masked p s j - Finset.univ.fold max ⊥ (masked p s)))
          (∑ k, Ideal.exp (masked p s k - Finset.univ.fold max ⊥ (masked p s))) := by
  obtain ⟨μ, hμ⟩ := max_real p s hp
  have hA := weights_pos p s hp
  have hE := Real.exp_pos (-μ)
  simp only [hμ, exp_masked, exp_masked_sub, sum_coe]
  rw [Ideal.div_coe hA.ne', one_mul, sum_mul_real _ _ _ (by positivity)]
  refine Finset.sum_congr rfl fun j _ => ?_
  rw [Ideal.div_coe (by rw [← Finset.sum_mul]; exact (mul_pos hA hE).ne'), ← EReal.coe_mul, mul_comm _ (v j), mul_assoc, ← EReal.coe_mul]
  congr 2
  rw [← Finset.sum_mul]
  field_simp

end Row

end Cert.KVal

end
-- ==== Proof.HeadVal.lean ====
/-
# What the kernel's pieces compute over the extended reals

The mask, one head, the queries of a block and the block's share of the result, read at one position.
-/
module

public import proofs.«01_k».proof.Proof.Struct
public import proofs.«01_k».proof.Proof.Soft
public import Idealize.ShloMosaic.Lib.IdealHost

@[expose] public section

noncomputable section

namespace Cert.KVal

open Cert.KernelIdeal Cert.KernelIdeal.Gen Cert.KRun
open Idealize.ShloMosaic

/-! ## The mask -/

/-- A row's block number and a column's, as the kernel reckons them. -/
theorem rowBlock (i j : Fin 512) : k0_pay4 (ix2 i j) = BitVec.ofNat 32 (i.val / 64) := by
  pointwise [k0_pay4]
  revert i
  decide +kernel

/-- The mask lets a column through whose block is not after the row's. -/
abbrev causal (i j : Fin 512) : Prop := j.val / 64 ≤ i.val / 64

theorem blocks_le : ∀ a b : Fin 8, IntOp.cmpi .sle (BitVec.ofNat 32 b.val) (BitVec.ofNat 32 a.val) = BitVec.ofBool (decide (b.val ≤ a.val)) := by
  decide +kernel

theorem colBlock (j : Fin 512) :
    Scalar.select (IntOp.andi (k0_pay6 (ix2 0 j)) (IntOp.cmpi .ne (k0_pay7 (ix2 0 j)) 0#32)) (IntOp.subi (k0_pay5 (ix2 0 j)) 1#32)
      (k0_pay5 (ix2 0 j)) = BitVec.ofNat 32 (j.val / 64) := by
  pointwise [k0_pay5, k0_pay6, k0_pay7]
  revert j
  decide +kernel

theorem bias_at (i j : Fin 512) : biasVal (F := Ideal) (ix2 i j) = if causal i j then 0 else ⊥ := by
  have h4 := rowBlock i j
  have hc := colBlock j
  have e5 : k0_pay5 (ix2 i j) = k0_pay5 (ix2 0 j) := rfl
  have e6 : k0_pay6 (ix2 i j) = k0_pay6 (ix2 0 j) := rfl
  have e7 : k0_pay7 (ix2 i j) = k0_pay7 (ix2 0 j) := rfl
  have hb := blocks_le ⟨i.val / 64, by omega⟩ ⟨j.val / 64, by omega⟩
  pointwise [biasVal, k0_pay8]
  rw [e5, e6, e7, h4, hc, hb, IdealRules.named_const.ideal_named_scalar Cert.KernelIdeal.κ "mask" _ ⊥ rfl]
  by_cases h : causal i j
  · rw [if_pos h, decide_eq_true h]; rfl
  · rw [if_neg h, decide_eq_false h]; rfl

/-! ## A head, the queries of a block, its share of the result -/

/-- The mix of values by the weights of a row of scores, divided at the end. -/
def mix (t v : Fin 512 → EReal) : EReal := (∑ j, Ideal.exp (t j) * v j) * Ideal.div 1 (∑ j, Ideal.exp (t j))

theorem head_at (bias : FVec Ideal S512x512 .f32) (kk v : Vec Ideal S64x512 .bf16) (q : Vec Ideal S512x64 .bf16) (i : Fin 512) (d : Fin 64) :
    headVal bias kk v q (ix2 i d)
      = mix (fun j => (∑ e : Fin 64, q (ix2 i e) * kk (ix2 e j)) * Ideal.ofBits .f32 0x3E000000#32 + bias (ix2 i j)) (fun j => v (ix2 d j)) := by
  unfold mix
  pointwise [headVal, k0_pay16]

theorem q_at (w : Vec Ideal S768x512 .bf16) (x : Vec Ideal S1024x768 .bf16) (i : Fin 1024) (d : Fin 512) :
    qVal (k0_pay1 w) x (ix2 i d) = ∑ k : Fin 768, x (ix2 i k) * w (ix2 k d) := by
  pointwise [qVal, k0_pay1, k0_pay10]

theorem out_at (w : Vec Ideal S512x768 .bf16) (o : Vec Ideal S2x512x768 .f32) (ctx : Vec Ideal S1024x512 .bf16) (b : Fin 2) (i : Fin 512) (n : Fin 768) :
    outVal (k0_pay2 w) o ctx (ix3 b i n)
      = o (ix3 b i n) + ∑ e : Fin 512, ctx (ix2 ⟨b.val * 512 + i.val, by omega⟩ e) * w (ix2 e n) := by
  pointwise [outVal, k0_pay2, k0_pay9, k0_pay45]

theorem eighth : Ideal.ofBits .f32 0x3E000000#32 = (((1 : ℝ) / 8 : ℝ) : EReal) := by
  simp [Ideal.ofBits, Ideal.ieee, -EReal.coe_mul]
  norm_num

end Cert.KVal

end
-- ==== Proof.KernelHost.lean ====
/-
# What the kernel's windows hold, read at one position

Each device takes its own two batch entries of the keys and the values, with the positions moved last, and its own rows
of the input.
-/
module

public import proofs.«01_k».proof.Proof.Windows
public import proofs.«01_k».proof.Proof.HeadVal
public import Idealize.ShloMosaic.Lib.StableHlo.Run

@[expose] public section

noncomputable section

namespace Cert.KVal

open Cert.KernelIdeal Cert.KernelIdeal.Gen Cert.KRun
open Idealize.ShloMosaic Idealize.ShloMosaic.TcCoe Idealize.ShloMosaic.StableHlo

/-- The first batch entry of device `c`, as the program computes it. -/
def startWord (c : Dev nD) : IVec S_ 32 :=
  select (cmpi .slt (muli (id (Host.remui (Host.divui (constantI S_ 32 (Dev.word c)) (constantI S_ 32 1#32)) (constantI S_ 32 8#32))) (constantI S_ 32 2#32)) (constantI S_ 32 0#32))
    (addi (muli (id (Host.remui (Host.divui (constantI S_ 32 (Dev.word c)) (constantI S_ 32 1#32)) (constantI S_ 32 8#32))) (constantI S_ 32 2#32)) (constantI S_ 32 16#32))
    (muli (id (Host.remui (Host.divui (constantI S_ 32 (Dev.word c)) (constantI S_ 32 1#32)) (constantI S_ 32 8#32))) (constantI S_ 32 2#32))

theorem startWord_val : ∀ c : Dev nD, (startWord c (Shape.Idx.first h_S_)).toInt = 2 * (c.val : ℤ) := by decide +kernel

/-- Device `c`'s two entries. -/
def entries (c : Dev nD) (k : FVec Ideal S16x512x64x64 .bf16) : FVec Ideal S2x512x64x64 .bf16 :=
  Host.dynamicSlice S2x512x64x64 k (fun a => ((![startWord c, constantI S_ 32 0#32, constantI S_ 32 0#32, constantI S_ 32 0#32] : Fin 4 → IVec S_ 32) a (Shape.Idx.first h_S_)).toInt)
    sliceFits_S16x512x64x64_S2x512x64x64

/-- The entries as rows: one for each entry, head and place in the head. -/
def rows (c : Dev nD) (k : FVec Ideal S16x512x64x64 .bf16) : FVec Ideal S8192x512 .bf16 :=
  shapeCast _ (transpose S2x64x64x512 [0, 2, 3, 1] (entries c k) transposes_S2x512x64x64_S2x64x64x512_0_2_3_1) shapeCasts_S2x64x64x512_S8192x512

theorem entries_at (c : Dev nD) (k : FVec Ideal S16x512x64x64 .bf16) (b : Fin 2) (j : Fin 512) (h d : Fin 64) :
    entries c k (ix4 b j h d) = k (ix4 ⟨2 * c.val + b.val, by have : c.val < 8 := c.isLt; omega⟩ j h d) := by
  have hc : c.val < 8 := c.isLt
  have e := startWord_val c
  unfold entries Host.dynamicSlice
  refine congrArg k (funext fun a => Fin.ext ?_)
  fin_cases a
  · show (min (max (startWord c (Shape.Idx.first h_S_)).toInt 0) ((16 - 2 : ℕ) : ℤ)).toNat + b.val = 2 * c.val + b.val
    rw [e]; omega
  · show 0 + j.val = j.val
    omega
  · show 0 + h.val = h.val
    omega
  · show 0 + d.val = d.val
    omega

theorem rows_at (c : Dev nD) (k : FVec Ideal S16x512x64x64 .bf16) (r : Fin 8192) (j : Fin 512) :
    rows c k (ix2 r j) = k (ix4 ⟨2 * c.val + r.val / 4096, by have : c.val < 8 := c.isLt; omega⟩ j ⟨r.val / 64 % 64, by omega⟩ ⟨r.val % 64, by omega⟩) := by
  pointwise [rows]
  exact entries_at c k _ _ _ _

/-- The rows of the two batch entries, one after the other. -/
theorem flat_at (x : FVec Ideal S2x512x768 .bf16) (r : Fin 1024) (e : Fin 768) :
    shapeCast S1024x768 x shapeCasts_S2x512x768_S1024x768 (ix2 r e) = x (ix3 ⟨r.val / 512, by omega⟩ ⟨r.val % 512, by omega⟩ e) := by
  pointwise

section Reads
variable (m : (ℓ : Loc nD τ sig) → Buf (Elt Ideal) ℓ) (c : Dev nD)

theorem ktAt_eq : ktAt m c = rows c (m ((c.tc : Thread nD τ).loc main_arg2)) := by
  unfold ktAt
  simp only [V1, hostOps0]
  after_results_simp
  refine congrArg (fun st => shapeCast S8192x512 (transpose S2x64x64x512 [0, 2, 3, 1]
    (Host.dynamicSlice S2x512x64x64 (m ((c.tc : Thread nD τ).loc main_arg2) : FVec Ideal S16x512x64x64 .bf16) st sliceFits_S16x512x64x64_S2x512x64x64)
    transposes_S2x512x64x64_S2x64x64x512_0_2_3_1) shapeCasts_S2x64x64x512_S8192x512) (funext fun a => ?_)
  refine congrArg (fun w : IVec S_ 32 => (w (Shape.Idx.first h_S_)).toInt) ?_
  fin_cases a
  all_goals
    simp only [cast_eq, Fin.mk_zero, Fin.mk_one, Fin.zero_eta, Fin.reduceFinMk, Matrix.cons_val_zero, Matrix.cons_val_one, Matrix.cons_val]
    after_results_simp
  all_goals rfl
theorem vtAt_eq : vtAt m c = rows c (m ((c.tc : Thread nD τ).loc main_arg3)) := by
  unfold vtAt
  simp only [V1, hostOps0]
  after_results_simp
  refine congrArg (fun st => shapeCast S8192x512 (transpose S2x64x64x512 [0, 2, 3, 1]
    (Host.dynamicSlice S2x512x64x64 (m ((c.tc : Thread nD τ).loc main_arg3) : FVec Ideal S16x512x64x64 .bf16) st sliceFits_S16x512x64x64_S2x512x64x64)
    transposes_S2x512x64x64_S2x64x64x512_0_2_3_1) shapeCasts_S2x64x64x512_S8192x512) (funext fun a => ?_)
  refine congrArg (fun w : IVec S_ 32 => (w (Shape.Idx.first h_S_)).toInt) ?_
  fin_cases a
  all_goals
    simp only [cast_eq, Fin.mk_zero, Fin.mk_one, Fin.zero_eta, Fin.reduceFinMk, Matrix.cons_val_zero, Matrix.cons_val_one, Matrix.cons_val]
    after_results_simp
  all_goals rfl
theorem xAt_eq : xAt m c = shapeCast S1024x768 (m ((c.tc : Thread nD τ).loc main_arg0) : FVec Ideal S2x512x768 .bf16) shapeCasts_S2x512x768_S1024x768 := by
  unfold xAt
  simp only [V1, hostOps0]
  after_results_simp <;> rfl
theorem wqAt_eq : wqAt m c = m ((c.tc : Thread nD τ).loc main_arg1) := V1_of m c main_arg1 (by decide)
theorem woAt_eq : woAt m c = m ((c.tc : Thread nD τ).loc main_arg4) := V1_of m c main_arg4 (by decide)

theorem xAt_at (r : Fin 1024) (e : Fin 768) :
    (xAt m c : FVec Ideal S1024x768 .bf16) (ix2 r e)
      = (m ((c.tc : Thread nD τ).loc main_arg0) : FVec Ideal S2x512x768 .bf16) (ix3 ⟨r.val / 512, by omega⟩ ⟨r.val % 512, by omega⟩ e) := by
  rw [xAt_eq]
  exact flat_at _ r e

end Reads

end Cert.KVal

end
-- ==== Proof.KernelVal.lean ====
/-
# What the kernel leaves, read at one position

A device's eight blocks are added up in the order the weights arrive; the sum is over all devices.
-/
module

public import proofs.«01_k».proof.Proof.KernelHost

@[expose] public section

noncomputable section

namespace Cert.KVal

open Cert.KernelIdeal Cert.KernelIdeal.Gen Cert.KRun
open Idealize.ShloMosaic

/-- Eight numbers added in the order the ring brings them. -/
theorem ring_sum (g : Dev nD → EReal) (c : Dev nD) :
    (((((((0 + g (back c 0)) + g (ahead c 1)) + g (back c 1)) + g (ahead c 2)) + g (back c 2)) + g (ahead c 3)) + g (back c 3)) + g (back c 4)
      = ∑ s : Fin 8, g s := by
  have h0 (p) : g ⟨0, p⟩ = g (0 : Fin 8) := rfl
  have h1 (p) : g ⟨1, p⟩ = g (1 : Fin 8) := rfl
  have h2 (p) : g ⟨2, p⟩ = g (2 : Fin 8) := rfl
  have h3 (p) : g ⟨3, p⟩ = g (3 : Fin 8) := rfl
  have h4 (p) : g ⟨4, p⟩ = g (4 : Fin 8) := rfl
  have h5 (p) : g ⟨5, p⟩ = g (5 : Fin 8) := rfl
  have h6 (p) : g ⟨6, p⟩ = g (6 : Fin 8) := rfl
  have h7 (p) : g ⟨7, p⟩ = g (7 : Fin 8) := rfl
  rw [Fin.sum_univ_eight, zero_add]
  fin_cases c
  all_goals
    simp only [back, ahead, Nat.reduceAdd, Nat.reduceSub, Nat.reduceMod, h0, h1, h2, h3, h4, h5, h6, h7]
    ac_rfl

section Block
variable (kt vt : FVec Ideal S8192x512 .bf16) (s : Dev nD) (q : FVec Ideal S1024x512 .bf16)

theorem kv_row (s : Dev nD) (b : Fin 2) (h : Fin 8) (d : Fin 64) : 4096 * b.val + 512 * s.val + 64 * h.val + d.val < 8192 := by
  have : s.val < 8 := s.isLt
  omega

theorem kvAt_at (b : Fin 2) (h : Fin 8) (d : Fin 64) (j : Fin 512) :
    kvAt (F := Ideal) kt s b h (ix2 d j) = kt (ix2 ⟨4096 * b.val + 512 * s.val + 64 * h.val + d.val, kv_row s b h d⟩ j) := by
  refine congrArg kt (funext fun a => Fin.ext ?_)
  fin_cases a
  · show 4096 * b.val + 512 * s.val + 64 * h.val + 1 * d.val = _
    rw [one_mul]; rfl
  · show 0 + 1 * j.val = j.val
    omega
theorem vvAt_at (b : Fin 2) (h : Fin 8) (d : Fin 64) (j : Fin 512) :
    vvAt (F := Ideal) vt s b h (ix2 d j) = vt (ix2 ⟨4096 * b.val + 512 * s.val + 64 * h.val + d.val, kv_row s b h d⟩ j) :=
  kvAt_at vt s b h d j
theorem qAt_at (b : Fin 2) (h : Fin 8) (i : Fin 512) (d : Fin 64) :
    qAt (F := Ideal) q b h (ix2 i d) = q (ix2 ⟨b.val * 512 + i.val, by omega⟩ ⟨64 * h.val + d.val, by omega⟩) := by
  refine congrArg q (funext fun a => Fin.ext ?_)
  fin_cases a
  · show 512 * b.val + 1 * i.val = b.val * 512 + i.val
    omega
  · show 64 * h.val + 1 * d.val = 64 * h.val + d.val
    omega

/-- One head's mixture of the values. -/
theorem headOut_at (b : Fin 2) (h : Fin 8) (i : Fin 512) (d : Fin 64) :
    headOut (F := Ideal) kt vt s q b h (ix2 i d)
      = mix (fun j => (∑ e : Fin 64, q (ix2 ⟨b.val * 512 + i.val, by omega⟩ ⟨64 * h.val + e.val, by omega⟩)
            * kt (ix2 ⟨4096 * b.val + 512 * s.val + 64 * h.val + e.val, kv_row s b h e⟩ j)) * Ideal.ofBits .f32 0x3E000000#32 + (if causal i j then 0 else ⊥))
          (fun j => vt (ix2 ⟨4096 * b.val + 512 * s.val + 64 * h.val + d.val, kv_row s b h d⟩ j)) := by
  unfold headOut
  rw [head_at]
  simp only [kvAt_at, vvAt_at, qAt_at, bias_at]

/-- The attention output read at a row of an entry. -/
theorem ctx_at (b : Fin 2) (i : Fin 512) (e : Fin 512) :
    ctxFull (F := Ideal) kt vt s q (ix2 ⟨b.val * 512 + i.val, by omega⟩ e)
      = headOut (F := Ideal) kt vt s q b ⟨e.val / 64, by omega⟩ (ix2 i ⟨e.val % 64, by omega⟩) := by
  have e1 : headOfIdx (ix2 (⟨b.val * 512 + i.val, by omega⟩ : Fin 1024) e) = (b, (⟨e.val / 64, by omega⟩ : Fin 8)) :=
    Prod.ext (Fin.ext (show (b.val * 512 + i.val) / 512 = b.val by omega)) rfl
  have e2 : inHead (ix2 (⟨b.val * 512 + i.val, by omega⟩ : Fin 1024) e) = ix2 i (⟨e.val % 64, by omega⟩ : Fin 64) := by
    funext a
    refine Fin.ext ?_
    fin_cases a
    · show (b.val * 512 + i.val) % 512 = i.val
      omega
    · rfl
  unfold ctxFull
  rw [e1, e2]

end Block

section All
variable (AQ : Dev nD → Vec Ideal S768x512 .bf16) (AO : Dev nD → Vec Ideal S512x768 .bf16) (c : Dev nD) (x : FVec Ideal S1024x768 .bf16)
  (kt vt : FVec Ideal S8192x512 .bf16)

/-- What device `s`'s weights contribute to one number of the result. -/
def part (b : Fin 2) (i : Fin 512) (n : Fin 768) (s : Dev nD) : EReal :=
  ∑ e : Fin 512, headOut (F := Ideal) kt vt s (qVal (k0_pay1 (AQ s)) x) b ⟨e.val / 64, by omega⟩ (ix2 i ⟨e.val % 64, by omega⟩) * AO s (ix2 e n)

theorem blockOut_at (s : Dev nD) (o : FVec Ideal S2x512x768 .f32) (b : Fin 2) (i : Fin 512) (n : Fin 768) :
    blockOut (F := Ideal) AQ AO x kt vt s o (ix3 b i n) = o (ix3 b i n) + part AQ AO x kt vt b i n s := by
  unfold blockOut
  rw [out_at]
  refine congrArg (o (ix3 b i n) + ·) (Finset.sum_congr rfl fun e _ => ?_)
  rw [ctx_at]

theorem outAll_at (b : Fin 2) (i : Fin 512) (n : Fin 768) :
    outAll (F := Ideal) AQ AO c x kt vt (ix3 b i n) = ∑ s : Fin 8, part AQ AO x kt vt b i n s := by
  have z : (k0_pay3 (F := Ideal)) (ix3 b i n) = 0 := by pointwise [k0_pay3]
  unfold outAll
  rw [blockOut_at, blockOut_at, blockOut_at, blockOut_at, blockOut_at, blockOut_at, blockOut_at, blockOut_at, z]
  exact ring_sum _ c

end All

end Cert.KVal

end
-- ==== Proof.RefVal.lean ====
/-
# What the reference computes over the extended reals

Its steps by name, and each read at one position.
-/
module

public import proofs.«01_k».proof.Proof.Gen.ReferenceIdeal.Run
public import proofs.«01_k».proof.Proof.HeadVal
public import Idealize.ShloMosaic.Lib.Routing.OpsOrder

@[expose] public section

noncomputable section

namespace Cert.KVal

open Cert.ReferenceIdeal Cert.ReferenceIdeal.Gen Cert.ReferenceIdeal.Value
open Idealize.ShloMosaic

/-! ## The steps -/

/-- The block number of each of the 512 positions. -/
def rBlock : IVec S512 32 :=
  select (andi (cmpi .ne (signi (iotaInDim S512 32 0)) (broadcastInDim S512 ![] bcast_S_S512 (signi (id (constantI S_ 32 64#32))))) (cmpi .ne (Host.remsi (iotaInDim S512 32 0) (broadcastInDim S512 ![] bcast_S_S512 (id (constantI S_ 32 64#32)))) (broadcastInDim S512 ![] bcast_S_S512 (constantI S_ 32 0#32)))) (subi (Host.divsi (iotaInDim S512 32 0) (broadcastInDim S512 ![] bcast_S_S512 (id (constantI S_ 32 64#32)))) (broadcastInDim S512 ![] bcast_S_S512 (constantI S_ 32 1#32))) (Host.divsi (iotaInDim S512 32 0) (broadcastInDim S512 ![] bcast_S_S512 (id (constantI S_ 32 64#32))))

/-- Column's block at most row's block. -/
def rMask : IVec S512x512 1 :=
  cmpi .sle (broadcastInDim S512x512 ![0, 1] bcast_S1x512_S512x512_0_1 (broadcastInDim S1x512 ![1] bcast_S512_S1x512_1 rBlock)) (broadcastInDim S512x512 ![0, 1] bcast_S512x1_S512x512_0_1 (broadcastInDim S512x1 ![0] bcast_S512_S512x1_0 rBlock))

/-- Rows that see a column at all. -/
def rKeep : IVec S512 1 := Host.reduce IntOp.ori rMask (constantI S_ 1 0#1) reducesTo_S512x512_S512_d1 h_S_

section Steps
variable (x : FVec Ideal S16x512x768 .bf16) (wq : FVec Ideal S768x4096 .bf16) (k v : FVec Ideal S16x512x64x64 .bf16) (wo : FVec Ideal S4096x768 .bf16)

/-- The queries, by head. -/
def rQuery : FVec Ideal S16x512x64x64 .f32 :=
  shapeCast _ (extf .f32 (truncf .bf16 (Host.dotGeneral dot_S16x512x768_S768x4096_S16x512x4096_2_0_01_1_n_n none (extf .f32 x bitsLt_bf16_f32) (extf .f32 wq bitsLt_bf16_f32)) bitsLt_bf16_f32) bitsLt_bf16_f32) shapeCasts_S16x512x4096_S16x512x64x64

/-- The masked scores. -/
def rScore : FVec Ideal S16x64x512x512 .f32 :=
  select (broadcastInDim S16x64x512x512 ![0, 1, 2, 3] bcast_S1x1x512x512_S16x64x512x512_0_1_2_3 (broadcastInDim S1x1x512x512 ![2, 3] bcast_S512x512_S1x1x512x512_2_3 rMask)) (mulf (extf .f32 (truncf .bf16 (Host.dotGeneral dot_S16x512x64x64_S16x512x64x64_S16x64x512x512_3_3_1_1_02_02 none (rQuery x wq) (extf .f32 k bitsLt_bf16_f32)) bitsLt_bf16_f32) bitsLt_bf16_f32) (broadcastInDim S16x64x512x512 ![] bcast_S_S16x64x512x512 (constant S_ .f32 0x3E000000#32))) (broadcastInDim S16x64x512x512 ![] bcast_S_S16x64x512x512 (id (constant S_ .f32 0xFF800000#32)))

/-- Their exponentials, the greatest of the row subtracted. -/
def rExp : FVec Ideal S16x64x512x512 .f32 :=
  Host.exp (subf (rScore x wq k) (broadcastInDim S16x64x512x512 ![0, 1, 2, 3] bcast_S16x64x512x1_S16x64x512x512_0_1_2_3 (broadcastInDim S16x64x512x1 ![0, 1, 2] bcast_S16x64x512_S16x64x512x1_0_1_2 (Host.reduce FloatOps.maximumf (rScore x wq k) (constant S_ .f32 0xFF800000#32) reducesTo_S16x64x512x512_S16x64x512_d3 h_S_))))

/-- The weights. -/
def rWeight : FVec Ideal S16x64x512x512 .f32 :=
  select (broadcastInDim S16x64x512x512 ![0, 1, 2, 3] bcast_S1x1x512x1_S16x64x512x512_0_1_2_3 (broadcastInDim S1x1x512x1 ![2] bcast_S512_S1x1x512x1_2 rKeep)) (Host.divf (rExp x wq k) (broadcastInDim S16x64x512x512 ![0, 1, 2, 3] bcast_S16x64x512x1_S16x64x512x512_0_1_2_3 (select (broadcastInDim S16x64x512x1 ![0, 1, 2, 3] bcast_S1x1x512x1_S16x64x512x1_0_1_2_3 (broadcastInDim S1x1x512x1 ![2] bcast_S512_S1x1x512x1_2 rKeep)) (broadcastInDim S16x64x512x1 ![0, 1, 2] bcast_S16x64x512_S16x64x512x1_0_1_2 (Host.reduceAdd (rExp x wq k) (constant S_ .f32 0x00000000#32) reducesTo_S16x64x512x512_S16x64x512_d3 h_S_)) (broadcastInDim S16x64x512x1 ![] bcast_S_S16x64x512x1 (id (constant S_ .f32 0x3F800000#32)))))) (broadcastInDim S16x64x512x512 ![] bcast_S_S16x64x512x512 (id (constant S_ .f32 0x00000000#32)))

/-- The result. -/
def rOut : FVec Ideal S16x512x768 .f32 :=
  Host.dotGeneral dot_S16x512x4096_S4096x768_S16x512x768_2_0_01_1_n_n none (shapeCast _ (transpose S16x512x64x64 [0, 3, 1, 2] (Host.dotGeneral dot_S16x512x64x64_S16x64x512x512_S16x64x64x512_1_3_3_2_02_01 none (extf .f32 v bitsLt_bf16_f32) (rWeight x wq k)) transposes_S16x64x64x512_S16x512x64x64_0_3_1_2) shapeCasts_S16x512x64x64_S16x512x4096) (extf .f32 wo bitsLt_bf16_f32)

end Steps

theorem res_eq (m : (ℓ : Loc nD τ sig) → Buf (Elt Ideal) ℓ) (c : Dev nD) :
    res_main_v42 m c = rOut (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

/-! ## The mask -/

theorem rBlock_at (i : Fin 512) : rBlock (ix1 i) = BitVec.ofNat 32 (i.val / 64) := by
  pointwise [rBlock]
  revert i
  decide +kernel

theorem rMask_at (i j : Fin 512) : rMask (ix2 i j) = BitVec.ofBool (decide (causal i j)) := by
  have hb := blocks_le ⟨i.val / 64, by omega⟩ ⟨j.val / 64, by omega⟩
  pointwise [rMask]
  rw [rBlock_at, rBlock_at]
  exact hb

theorem minus_inf : Ideal.ofBits .f32 0xFF800000#32 = ⊥ := by
  simp [Ideal.ofBits, Ideal.ieee]

theorem rKeep_at (i : Fin 512) : rKeep (ix1 i) = 1#1 := by
  have h : rMask (ix2 i i) = 1#1 := by rw [rMask_at, decide_eq_true (le_refl _)]; rfl
  pointwise [rKeep]
  rw [Routing.fold_ori]
  exact ⟨i, Finset.mem_univ i, h⟩

/-! ## The steps, read -/

section Steps
variable (x : FVec Ideal S16x512x768 .bf16) (wq : FVec Ideal S768x4096 .bf16) (k v : FVec Ideal S16x512x64x64 .bf16) (wo : FVec Ideal S4096x768 .bf16)

theorem rQuery_at (b : Fin 16) (i : Fin 512) (h d : Fin 64) :
    rQuery x wq (ix4 b i h d) = ∑ e : Fin 768, x (ix3 b i e) * wq (ix2 e ⟨h.val * 64 + d.val, by omega⟩) := by
  pointwise [rQuery]

theorem rScore_at (b : Fin 16) (h : Fin 64) (i j : Fin 512) :
    rScore x wq k (ix4 b h i j) = if causal i j then (∑ d : Fin 64, rQuery x wq (ix4 b i h d) * k (ix4 b j h d)) * Ideal.ofBits .f32 0x3E000000#32 else ⊥ := by
  have e : (id (constant S_ .f32 0xFF800000#32) : FVec Ideal S_ .f32) ix0 = ⊥ := minus_inf
  pointwise [rScore]
  rw [rMask_at, e]
  by_cases h : causal i j
  · rw [if_pos h, decide_eq_true h]; rfl
  · rw [if_neg h, decide_eq_false h]; rfl

theorem rExp_at (b : Fin 16) (h : Fin 64) (i j : Fin 512) :
    rExp x wq k (ix4 b h i j)
      = Ideal.exp (rScore x wq k (ix4 b h i j) - Finset.univ.fold max ⊥ fun j' : Fin 512 => rScore x wq k (ix4 b h i j')) := by
  pointwise [rExp]
  rw [minus_inf]

theorem rWeight_at (b : Fin 16) (h : Fin 64) (i j : Fin 512) :
    rWeight x wq k (ix4 b h i j) = Ideal.div (rExp x wq k (ix4 b h i j)) (∑ j' : Fin 512, rExp x wq k (ix4 b h i j')) := by
  pointwise [rWeight]
  rw [rKeep_at]
  rfl

theorem rOut_at (b : Fin 16) (i : Fin 512) (n : Fin 768) :
    rOut x wq k v wo (ix3 b i n)
      = ∑ c : Fin 4096, (∑ j : Fin 512, v (ix4 b j ⟨c.val / 64, by omega⟩ ⟨c.val % 64, by omega⟩)
          * rWeight x wq k (ix4 b ⟨c.val / 64, by omega⟩ i j)) * wo (ix2 c n) := by
  pointwise [rOut]

end Steps

end Cert.KVal

end
-- ==== Proof.Equal.lean ====
/-
# The kernel's numbers are the reference's

For finite rows, query weights and keys every score is a real number, so a row's exponentials divide out the greatest
score; the sum over devices and their 512 columns is the reference's sum over 4096 columns.
-/
module

public import proofs.«01_k».proof.Proof.KernelVal
public import proofs.«01_k».proof.Proof.RefVal

@[expose] public section

noncomputable section

namespace Cert.KVal

open Cert.ReferenceIdeal Cert.ReferenceIdeal.Gen
open Idealize.ShloMosaic

/-- Every entry a real number. -/
def Finite {ι : Type} (f : ι → EReal) : Prop := ∀ i, ∃ r : ℝ, f i = (r : EReal)

/-- A sum of products of reals is a real. -/
theorem dot_real {ι : Type} [Fintype ι] (f g : ι → EReal) (hf : Finite f) (hg : Finite g) : ∃ r : ℝ, ∑ i, f i * g i = (r : EReal) := by
  choose a ha using hf
  choose b hb using hg
  exact ⟨∑ i, a i * b i, by simp only [ha, hb, ← EReal.coe_mul, sum_coe]⟩

/-- 4096 columns are eight devices' 512 each. -/
theorem columns (f : Fin 4096 → EReal) : ∑ c : Fin 4096, f c = ∑ s : Fin 8, ∑ e : Fin 512, f ⟨512 * s.val + e.val, by omega⟩ := by
  rw [← Fintype.sum_prod_type' (fun (s : Fin 8) (e : Fin 512) => f ⟨512 * s.val + e.val, by omega⟩)]
  refine ((finProdFinEquiv (m := 8) (n := 512)).sum_comp f).symm.trans (Finset.sum_congr rfl fun p _ => congrArg f (Fin.ext ?_))
  show p.2.val + 512 * p.1.val = 512 * p.1.val + p.2.val
  omega

section Rows
variable (X : FVec Ideal S16x512x768 .bf16) (WQ : FVec Ideal S768x4096 .bf16) (K V : FVec Ideal S16x512x64x64 .bf16) (WO : FVec Ideal S4096x768 .bf16)

/-- The scores of a row before the mask. -/
def raw (B : Fin 16) (H : Fin 64) (i j : Fin 512) : EReal :=
  (∑ d : Fin 64, rQuery X WQ (ix4 B i H d) * K (ix4 B j H d)) * Ideal.ofBits .f32 0x3E000000#32

theorem raw_real (hX : Finite X) (hWQ : Finite WQ) (hK : Finite K) (B : Fin 16) (H : Fin 64) (i j : Fin 512) :
    ∃ r : ℝ, raw X WQ K B H i j = (r : EReal) := by
  obtain ⟨r, hr⟩ := dot_real (fun d : Fin 64 => rQuery X WQ (ix4 B i H d)) (fun d => K (ix4 B j H d))
    (fun d => by
      show ∃ r : ℝ, rQuery X WQ (ix4 B i H d) = (r : EReal)
      rw [rQuery_at]
      exact dot_real _ _ (fun e => hX _) (fun e => hWQ _)) (fun d => hK _)
  exact ⟨r * (1 / 8), by unfold raw; rw [hr, eighth, ← EReal.coe_mul]⟩

/-- The kernel's mixture of a row is the reference's. -/
theorem mix_eq (hX : Finite X) (hWQ : Finite WQ) (hK : Finite K) (B : Fin 16) (H : Fin 64) (i : Fin 512) (v : Fin 512 → EReal) :
    mix (fun j => raw X WQ K B H i j + if causal i j then 0 else ⊥) v = ∑ j, v j * rWeight X WQ K (ix4 B H i j) := by
  choose s hs using raw_real X WQ K hX hWQ hK B H i
  have ht : (fun j => raw X WQ K B H i j + if causal i j then 0 else ⊥) = masked (causal i) s := by
    funext j
    rw [hs]
    unfold masked
    split
    · rw [add_zero]
    · rw [EReal.add_bot]
  have hr : ∀ j, rScore X WQ K (ix4 B H i j) = masked (causal i) s j := by
    intro j
    rw [rScore_at]
    unfold masked
    exact congrArg (fun z => if causal i j then z else ⊥) (hs j)
  rw [ht]
  unfold mix
  rw [row_eq (causal i) s ⟨i, le_refl _⟩ v]
  simp only [rWeight_at, rExp_at, hr]

end Rows

section Parts
variable (X : FVec Ideal S16x512x768 .bf16) (WQ : FVec Ideal S768x4096 .bf16) (K V : FVec Ideal S16x512x64x64 .bf16) (WO : FVec Ideal S4096x768 .bf16)
variable (hX : Finite X) (hWQ : Finite WQ) (hK : Finite K)
variable (c : Dev Cert.KernelIdeal.nD) (x : FVec Ideal Cert.KernelIdeal.S1024x768 .bf16)
  (AQ : Dev Cert.KernelIdeal.nD → Vec Ideal Cert.KernelIdeal.S768x512 .bf16) (AO : Dev Cert.KernelIdeal.nD → Vec Ideal Cert.KernelIdeal.S512x768 .bf16)

/-- The batch entry that device `c` has as its entry `b`. -/
def entry (b : Fin 2) : Fin 16 := ⟨2 * c.val + b.val, by have : c.val < 8 := c.isLt; omega⟩
/-- The column that device `s` has as its column `e`. -/
def column (s : Fin 8) (e : Fin 512) : Fin 4096 := ⟨512 * s.val + e.val, by omega⟩

theorem flat_lt (b : Fin 2) (i : Fin 512) : b.val * 512 + i.val < 1024 := by omega

variable (hx : ∀ (b : Fin 2) (i : Fin 512) (k : Fin 768), x (ix2 ⟨b.val * 512 + i.val, flat_lt b i⟩ k) = X (ix3 (entry c b) i k))
  (hAQ : ∀ (s : Fin 8) (k : Fin 768) (e : Fin 512), AQ s (ix2 k e) = WQ (ix2 k (column s e)))
  (hAO : ∀ (s : Fin 8) (e : Fin 512) (n : Fin 768), AO s (ix2 e n) = WO (ix2 (column s e) n))

include hX hWQ hK hx hAQ in
theorem headOut_eq (s : Fin 8) (b : Fin 2) (i : Fin 512) (e : Fin 512) :
    Cert.KRun.headOut (F := Ideal) (rows c K) (rows c V) s (Cert.KRun.qVal (Cert.KernelIdeal.Gen.k0_pay1 (AQ s)) x) b ⟨e.val / 64, by omega⟩ (ix2 i ⟨e.val % 64, by omega⟩)
      = ∑ j : Fin 512, V (ix4 (entry c b) j ⟨(column s e).val / 64, by omega⟩ ⟨(column s e).val % 64, by omega⟩)
          * rWeight X WQ K (ix4 (entry c b) ⟨(column s e).val / 64, by omega⟩ i j) := by
  have hc : c.val < 8 := c.isLt
  have hrow (d : Fin 64) (j : Fin 512) (U : FVec Ideal S16x512x64x64 .bf16) :
      rows c U (ix2 ⟨4096 * b.val + 512 * s.val + 64 * (e.val / 64) + d.val, by omega⟩ j)
        = U (ix4 (entry c b) j ⟨(column s e).val / 64, by omega⟩ d) := by
    rw [rows_at]
    refine congrArg U (congr (congrArg₂ (fun p q => ix4 p j q) (Fin.ext ?_) (Fin.ext ?_)) (Fin.ext ?_))
    · show 2 * c.val + (4096 * b.val + 512 * s.val + 64 * (e.val / 64) + d.val) / 4096 = 2 * c.val + b.val
      omega
    · show (4096 * b.val + 512 * s.val + 64 * (e.val / 64) + d.val) / 64 % 64 = (512 * s.val + e.val) / 64
      omega
    · show (4096 * b.val + 512 * s.val + 64 * (e.val / 64) + d.val) % 64 = d.val
      omega
  have hq (d : Fin 64) :
      Cert.KRun.qVal (F := Ideal) (Cert.KernelIdeal.Gen.k0_pay1 (AQ s)) x (ix2 ⟨b.val * 512 + i.val, by omega⟩ ⟨64 * (e.val / 64) + d.val, by omega⟩)
        = rQuery X WQ (ix4 (entry c b) i ⟨(column s e).val / 64, by omega⟩ d) := by
    rw [q_at, rQuery_at]
    refine Finset.sum_congr rfl fun k _ => ?_
    rw [hx, hAQ]
    refine congrArg (fun z => X (ix3 (entry c b) i k) * WQ (ix2 k z)) (Fin.ext ?_)
    show 512 * s.val + (64 * (e.val / 64) + d.val) = (512 * s.val + e.val) / 64 * 64 + d.val
    omega
  have hd : (⟨(column s e).val % 64, by omega⟩ : Fin 64) = ⟨e.val % 64, by omega⟩ :=
    Fin.ext (show (512 * s.val + e.val) % 64 = e.val % 64 by omega)
  rw [headOut_at, ← mix_eq X WQ K hX hWQ hK (entry c b) ⟨(column s e).val / 64, by omega⟩ i]
  refine congrArg₂ mix (funext fun j => ?_) (funext fun j => ?_)
  · refine congrArg (fun z => z * Ideal.ofBits .f32 0x3E000000#32 + _) (Finset.sum_congr rfl fun d _ => ?_)
    exact congrArg₂ (· * ·) (hq d) (hrow d j K)
  · rw [hd]
    exact hrow ⟨e.val % 64, by omega⟩ j V

include hX hWQ hK hx hAQ hAO in
theorem out_eq (b : Fin 2) (i : Fin 512) (n : Fin 768) :
    Cert.KRun.outAll (F := Ideal) AQ AO c x (rows c K) (rows c V) (ix3 b i n) = rOut X WQ K V WO (ix3 (entry c b) i n) := by
  rw [rOut_at, columns]
  refine Eq.trans (α := EReal) (outAll_at AQ AO c x (rows c K) (rows c V) b i n) (Finset.sum_congr rfl fun s _ => Finset.sum_congr rfl fun e _ => ?_)
  exact congrArg₂ (· * ·) (headOut_eq X WQ K V hX hWQ hK c x AQ hx hAQ s b i e) (hAO s e n)

end Parts

end Cert.KVal

end
-- ==== Proof.Inputs.lean ====
/-
# What the precondition and the layout say of the inputs

A device's blocks of the inputs that enter the scores hold real numbers, and each block is a piece of the whole array.
-/
module

public import proofs.«01_k».proof.Defs
public import proofs.«01_k».proof.Proof.Equal
public import Idealize.ShloMosaic.Lib.LayoutAt

@[expose] public section

noncomputable section

namespace Cert.KVal

open Idealize.ShloMosaic

/-! ## Finiteness -/

theorem preKernel : Cert.Pre_finite_scores_inputs_KernelIdeal.Facts where
  bcast_S_S2x512x768 := by decide
  bcast_S_S768x512 := by decide
  bcast_S_S16x512x64x64 := by decide

theorem preReference : Cert.Pre_finite_scores_inputs_ReferenceIdeal.Facts where
  bcast_S_S16x512x768 := by decide
  bcast_S_S768x4096 := by decide
  bcast_S_S16x512x64x64 := by decide

theorem below : Ideal.ofBits .bf16 0xFF80#16 = ⊥ := by
  simp [Ideal.ofBits, Ideal.ieee]
theorem above : Ideal.ofBits .bf16 0x7F80#16 = ⊤ := by
  simp [Ideal.ofBits, Ideal.ieee]

/-- Strictly between the infinities lie the reals. -/
theorem between (x : EReal) (h : IntOp.andi (Ideal.cmp .ogt x (Ideal.ofBits .bf16 0xFF80#16)) (Ideal.cmp .olt x (Ideal.ofBits .bf16 0x7F80#16)) = 1#1) :
    ∃ r : ℝ, x = (r : EReal) := by
  rw [below, above] at h
  induction x using EReal.rec with
  | bot => simp [Ideal.cmp, IntOp.andi] at h
  | coe r => exact ⟨r, rfl⟩
  | top => simp [Ideal.cmp, IntOp.andi] at h

section Pre
variable (x : FVec Ideal ⟨3, ![2, 512, 768]⟩ .bf16) (wq : FVec Ideal ⟨2, ![768, 512]⟩ .bf16) (k v : FVec Ideal ⟨4, ![16, 512, 64, 64]⟩ .bf16)
  (wo : FVec Ideal ⟨2, ![512, 768]⟩ .bf16)

attribute [local instance] preKernel

theorem finite_x (h : (Cert.Pre_finite_scores_inputs_KernelIdeal.fn (F := Ideal) x wq k v wo).1 = fun _ => 1#1) : Finite x :=
  fun i => between (x i) (congrFun h i)
theorem finite_wq (h : (Cert.Pre_finite_scores_inputs_KernelIdeal.fn (F := Ideal) x wq k v wo).2.1 = fun _ => 1#1) : Finite wq :=
  fun i => between (wq i) (congrFun h i)
theorem finite_k (h : (Cert.Pre_finite_scores_inputs_KernelIdeal.fn (F := Ideal) x wq k v wo).2.2 = fun _ => 1#1) : Finite k :=
  fun i => between (k i) (congrFun h i)

end Pre

/-! ## The blocks -/

theorem block_x {α : Type} (h : Layout.Tiles ⟨3, ![2, 512, 768]⟩ ⟨3, ![16, 512, 768]⟩ 0 8) (X : (⟨3, ![16, 512, 768]⟩ : Shape).Idx → α) (c : Fin 8) (b : Fin 2) (i : Fin 512) (k : Fin 768) :
    Layout.block ⟨3, ![2, 512, 768]⟩ ⟨3, ![16, 512, 768]⟩ 0 8 c X h (ix3 b i k) = X (ix3 ⟨2 * c.val + b.val, by omega⟩ i k) := by
  refine congrArg X (funext fun a => Fin.ext ?_)
  fin_cases a
  · show c.val * 2 + b.val = 2 * c.val + b.val
    omega
  · rfl
  · rfl
theorem block_wq {α : Type} (h : Layout.Tiles ⟨2, ![768, 512]⟩ ⟨2, ![768, 4096]⟩ 1 8) (W : (⟨2, ![768, 4096]⟩ : Shape).Idx → α) (c : Fin 8) (k : Fin 768) (e : Fin 512) :
    Layout.block ⟨2, ![768, 512]⟩ ⟨2, ![768, 4096]⟩ 1 8 c W h (ix2 k e) = W (ix2 k (column c e)) := by
  refine congrArg W (funext fun a => Fin.ext ?_)
  fin_cases a
  · rfl
  · show c.val * 512 + e.val = 512 * c.val + e.val
    omega
theorem block_wo {α : Type} (h : Layout.Tiles ⟨2, ![512, 768]⟩ ⟨2, ![4096, 768]⟩ 0 8) (W : (⟨2, ![4096, 768]⟩ : Shape).Idx → α) (c : Fin 8) (e : Fin 512) (n : Fin 768) :
    Layout.block ⟨2, ![512, 768]⟩ ⟨2, ![4096, 768]⟩ 0 8 c W h (ix2 e n) = W (ix2 (column c e) n) := by
  refine congrArg W (funext fun a => Fin.ext ?_)
  fin_cases a
  · show c.val * 512 + e.val = 512 * c.val + e.val
    omega
  · rfl

/-! ## The whole arrays -/

section Whole
variable (X : FVec Ideal ⟨3, ![16, 512, 768]⟩ .bf16) (WQ : FVec Ideal ⟨2, ![768, 4096]⟩ .bf16)

/-- If every device's rows are real, all rows are. -/
theorem whole_x (h : ∀ c : Fin 8, Finite (Layout.block ⟨3, ![2, 512, 768]⟩ ⟨3, ![16, 512, 768]⟩ 0 8 c X)) : Finite X := by
  intro i
  have h0 : (i 0).val < 16 := (i 0).isLt
  have e : i = ix3 (⟨2 * ((i 0).val / 2) + (i 0).val % 2, by omega⟩ : Fin 16) (i 1) (i 2) := by
    funext a
    refine Fin.ext ?_
    fin_cases a
    · show (i 0).val = 2 * ((i 0).val / 2) + (i 0).val % 2
      omega
    · rfl
    · rfl
  obtain ⟨r, hr⟩ := h ⟨(i 0).val / 2, by omega⟩ (ix3 (⟨(i 0).val % 2, by omega⟩ : Fin 2) (i 1 : Fin 512) (i 2 : Fin 768))
  exact ⟨r, (congrArg X e).trans ((block_x _ X _ _ _ _).symm.trans hr)⟩

/-- If every device's columns of the query weights are real, all columns are. -/
theorem whole_wq (h : ∀ c : Fin 8, Finite (Layout.block ⟨2, ![768, 512]⟩ ⟨2, ![768, 4096]⟩ 1 8 c WQ)) : Finite WQ := by
  intro i
  have h1 : (i 1).val < 4096 := (i 1).isLt
  have e : i = ix2 (i 0) (column ⟨(i 1).val / 512, by omega⟩ ⟨(i 1).val % 512, by omega⟩) := by
    funext a
    refine Fin.ext ?_
    fin_cases a
    · rfl
    · show (i 1).val = 512 * ((i 1).val / 512) + (i 1).val % 512
      omega
  obtain ⟨r, hr⟩ := h ⟨(i 1).val / 512, by omega⟩ (ix2 (i 0 : Fin 768) (⟨(i 1).val % 512, by omega⟩ : Fin 512))
  exact ⟨r, (congrArg WQ e).trans ((block_wq _ WQ _ _ _).symm.trans hr)⟩

end Whole

end Cert.KVal

end
-- ==== Proof.lean ====
/-
# The proof of the claim

The three frames, that the idealization only names a constant, and that the idealized kernel leaves on each device its
block of what the reference leaves.
-/
module

public import proofs.«01_k».proof.Defs
public import proofs.«01_k».proof.Proof.KernelFrame
public import proofs.«01_k».proof.Proof.Inputs

@[expose] public section

noncomputable section

namespace Cert.Proof

open Idealize.ShloMosaic Idealize.SL.Sem Cert.KVal

/-- The kernel at bit patterns runs, and leaves its arguments and the counters as they were. -/
theorem frame_kernel : Cert.quiescent_Kernel := fun m ρ _ =>
  (θ_run Cert.Kernel.defs _ _).mono (fun _ h => ⟨fun c => (h.1 c).2, h.2⟩) (Cert.KRun.kernel_frame m ρ)

/-- So does the idealized kernel. -/
theorem frame_ideal : Cert.quiescent_KernelIdeal := fun m ρ _ =>
  (θ_run Cert.KernelIdeal.defs _ _).mono (fun _ h => ⟨fun c => (h.1 c).2, h.2⟩) (Cert.KRun.run_main m ρ)

/-- And the reference, which has no semaphores. -/
theorem frame_reference : Cert.quiescent_ReferenceIdeal := fun m ρ _ =>
  (θ_run Cert.ReferenceIdeal.defs _ _).mono (fun r h => ⟨fun c => (h c).2, sem_eq_zero_of_no_sems rfl r.2⟩) (Cert.ReferenceIdeal.Value.run m ρ)

attribute [local instance] preKernel preReference

/-- On finite inputs of the scores the idealized kernel's results are the blocks of the reference's result. -/
theorem same_value : Cert.algebraic_KernelIdeal_ReferenceIdeal_pre_finite_scores_inputs_KernelIdeal := by
  intro m g m' g' hpre hin
  refine ⟨Cert.ReferenceIdeal.Value.res_main_v42 m' 0, (θ_run Cert.KernelIdeal.defs _ _).mono (fun r h c => ⟨?_, (h.1 c).2⟩) (Cert.KRun.run_main m g),
    (θ_run Cert.ReferenceIdeal.defs _ _).mono (fun _ h => h 0) (Cert.ReferenceIdeal.Value.run m' g')⟩
  refine (h.1 c).1.trans ?_
  have hX := whole_x _ fun d => (hin d).1 ▸ finite_x _ _ _ _ _ (hpre d).1
  have hWQ := whole_wq _ fun d => (hin d).2.1 ▸ finite_wq _ _ _ _ _ (hpre d).2.1
  have hK := (hin 0).2.2.1 ▸ finite_k _ _ _ _ _ (hpre 0).2.2
  funext i
  obtain ⟨b, p, n, rfl⟩ : ∃ (b : Fin 2) (p : Fin 512) (n : Fin 768), i = ix3 b p n := ⟨i 0, i 1, i 2, eq_ix3 i⟩
  refine Eq.trans (α := EReal) ?_ (block_x _ _ c b p n).symm
  rw [res_eq]
  have hk : Cert.KRun.ktAt m c = rows c _ := (ktAt_eq m c).trans (congrArg (rows c) (hin c).2.2.1)
  have hv : Cert.KRun.vtAt m c = rows c _ := (vtAt_eq m c).trans (congrArg (rows c) (hin c).2.2.2.1)
  unfold Cert.KRun.outAt
  rw [hk, hv]
  refine out_eq _ _ _ _ _ hX hWQ hK c (Cert.KRun.xAt m c) (Cert.KRun.wqAt m) (Cert.KRun.woAt m) (fun b p k => ?_) (fun s k e => ?_) (fun s e n => ?_) b p n
  · refine (xAt_at m c _ k).trans ((congrFun (hin c).1 _).trans ?_)
    refine Eq.trans (congrArg (fun q => Layout.block _ _ 0 8 c _ _ q) (congrArg₂ (fun b p => ix3 b p k) (Fin.ext ?_) (Fin.ext ?_))) (block_x _ _ c b p k)
    · show (b.val * 512 + p.val) / 512 = b.val
      omega
    · show (b.val * 512 + p.val) % 512 = p.val
      omega
  · exact (congrFun ((wqAt_eq m s).trans (hin s).2.1) _).trans (block_wq _ _ s k e)
  · exact (congrFun ((woAt_eq m s).trans (hin s).2.2.2.2) _).trans (block_wo _ _ s e n)

theorem claim : Cert.Claim :=
  ⟨Cert.Kernel.Gen.facts, Cert.KernelIdeal.Gen.facts, Cert.ReferenceIdeal.Gen.facts, preKernel, preReference, frame_kernel, frame_ideal,
    fun m ρ _ => frame_ideal m ρ trivial, frame_reference, fun m ρ _ => frame_reference m ρ trivial,
    IdealRules.named_const.statement Cert.KernelIdeal.κ "mask" .f32 0xCE6E6B28#32 ⊥ rfl, same_value⟩

end Cert.Proof

end
